-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_in_range [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_labels_in_range [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_labels_in_range [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_labels_in_range [hKernelIdeal : Cert.KernelIdeal.Facts] [hReferenceIdeal : Cert.ReferenceIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_labels_in_range : Cert.Pre_labels_in_range.Facts),
    quiescent_Kernel (hKernel := hKernel)
    ∧ quiescent_KernelIdeal (hKernelIdeal := hKernelIdeal)
    ∧ quiescent_KernelIdeal_pre_labels_in_range (hKernelIdeal := hKernelIdeal) (hPre_labels_in_range := hPre_labels_in_range)
    ∧ quiescent_ReferenceIdeal (hReferenceIdeal := hReferenceIdeal)
    ∧ quiescent_ReferenceIdeal_pre_labels_in_range (hReferenceIdeal := hReferenceIdeal) (hPre_labels_in_range := hPre_labels_in_range)
    ∧ preserves_Kernel_KernelIdeal
    ∧ algebraic_KernelIdeal_ReferenceIdeal_pre_labels_in_range (hKernelIdeal := hKernelIdeal) (hReferenceIdeal := hReferenceIdeal) (hPre_labels_in_range := hPre_labels_in_range)
-- ==== Pre_labels_in_range.lean ====
abbrev S4096 : Shape := ⟨1, ![4096]⟩
abbrev S4096x1024 : Shape := ⟨2, ![4096, 1024]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : IVec S4096 32) (main_arg1 : FVec F S4096x1024 .f32) : IVec S_ 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 1000#32
  let main_v2 : IVec S4096 32 := broadcastInDim S4096 ![] bcast_S_S4096 main_c_0
  let main_v3 : IVec S4096 1 := cmpi .slt main_arg0 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Kernel.lean ====
abbrev S4096 : Shape := ⟨1, ![4096]⟩
abbrev S4096x1024 : Shape := ⟨2, ![4096, 1024]⟩
abbrev S1x4096 : Shape := ⟨2, ![1, 4096]⟩
abbrev S4096x1 : Shape := ⟨2, ![4096, 1]⟩
abbrev S8x128 : Shape := ⟨2, ![8, 128]⟩
abbrev S128x1024 : Shape := ⟨2, ![128, 1024]⟩
abbrev S1x128 : Shape := ⟨2, ![1, 128]⟩
abbrev S1x1024 : Shape := ⟨2, ![1, 1024]⟩
abbrev S128x4096 : Shape := ⟨2, ![128, 4096]⟩
abbrev S128x1 : Shape := ⟨2, ![128, 1]⟩
abbrev S128 : Shape := ⟨1, ![128]⟩
abbrev S1x128x1 : Shape := ⟨3, ![1, 128, 1]⟩
abbrev S1 : Shape := ⟨1, ![1]⟩
abbrev S1x1x1 : Shape := ⟨3, ![1, 1, 1]⟩
abbrev S1x1x128 : Shape := ⟨3, ![1, 1, 128]⟩
abbrev S1x1 : Shape := ⟨2, ![1, 1]⟩
abbrev S_ : Shape := ⟨0, ![]⟩

abbrev nBuf : Space → Nat
  | .hbm => 7
  | .vmem => 8
  | .smem => 0
  | _ => 0

abbrev bufTy : (tb : Table) → Fin (tcTables nBuf tb) → BufTy
  | .hbm, ⟨0, _⟩ => ⟨S4096, .i32⟩
  | .hbm, ⟨1, _⟩ => ⟨S4096x1024, .f32⟩
  | .hbm, ⟨2, _⟩ => ⟨S1x4096, .i32⟩
  | .hbm, ⟨3, _⟩ => ⟨S4096x1, .i32⟩
  | .hbm, ⟨4, _⟩ => ⟨S8x128, .f32⟩
  | .hbm, ⟨5, _⟩ => ⟨S1x1, .f32⟩
  | .hbm, ⟨6, _⟩ => ⟨S_, .f32⟩
  | .local _ .vmem, ⟨0, _⟩ => ⟨S1x4096, .i32⟩
  | .local _ .vmem, ⟨1, _⟩ => ⟨S4096x1, .i32⟩
  | .local _ .vmem, ⟨2, _⟩ => ⟨S128x1024, .f32⟩
  | .local _ .vmem, ⟨3, _⟩ => ⟨S128x1024, .f32⟩
  | .local _ .vmem, ⟨4, _⟩ => ⟨S4096x1024, .f32⟩
  | .local _ .vmem, ⟨5, _⟩ => ⟨S8x128, .f32⟩
  | .local _ .vmem, ⟨6, _⟩ => ⟨S4096x1024, .bf16⟩
  | .local _ .vmem, ⟨7, _⟩ => ⟨S1x128, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let c128_i32 : BitVec 32 := 128#32
  let v8 : BitVec 32 := Scalar.muli arg0 c128_i32
  let v9 : Index := Scalar.indexCast v8
  let c0_6 : Index := 0#32
  ![v9.toNat, 0]
def k0_cond2 (i : grid0.Coords) : BitVec 1 :=
  let arg0 : BitVec 32 := BitVec.ofNat 32 (i 0).val
  let c31_i32 : BitVec 32 := 31#32
  let v629 : BitVec 1 := Scalar.cmpi .eq arg0 c31_i32
  let v630 : BitVec 32 := Scalar.extui v629
  let c0_i32_189 : BitVec 32 := 0#32
  let v631 : BitVec 1 := Scalar.cmpi .ne v630 c0_i32_189
  v631

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x4096 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096 : Shape := ⟨1, ![4096]⟩
abbrev S4096x1024 : Shape := ⟨2, ![4096, 1024]⟩
abbrev S20 : Shape := ⟨1, ![20]⟩
abbrev S1024x4096 : Shape := ⟨2, ![1024, 4096]⟩
abbrev S4096x4096 : Shape := ⟨2, ![4096, 4096]⟩
abbrev S_ : Shape := ⟨0, ![]⟩
abbrev S4096x1 : Shape := ⟨2, ![4096, 1]⟩
abbrev S4096x2 : Shape := ⟨2, ![4096, 2]⟩
abbrev S4096x4096x1 : Shape := ⟨3, ![4096, 4096, 1]⟩
abbrev S1 : Shape := ⟨1, ![1]⟩
abbrev S1x1x1 : Shape := ⟨3, ![1, 1, 1]⟩
abbrev S4096x1000 : Shape := ⟨2, ![4096, 1000]⟩
abbrev S1x4096 : Shape := ⟨2, ![1, 4096]⟩
abbrev S4096x4096x2 : Shape := ⟨3, ![4096, 4096, 2]⟩
abbrev S4096x1x1 : Shape := ⟨3, ![4096, 1, 1]⟩
abbrev S1x1x20 : Shape := ⟨3, ![1, 1, 20]⟩
abbrev S4096x4096x20 : Shape := ⟨3, ![4096, 4096, 20]⟩
abbrev S4096x20 : Shape := ⟨2, ![4096, 20]⟩
abbrev S4096x20x1 : Shape := ⟨3, ![4096, 20, 1]⟩

abbrev nBuf : Space → Nat
  | .hbm => 299
  | .vmem => 0
  | .smem => 0
  | _ => 0

abbrev hbmTy0_0 (i : Nat) : BufTy := match i % 128 with
  | 0 => ⟨S4096, .i32⟩
  | 1 => ⟨S4096x1024, .f32⟩
  | 2 => ⟨S20, .f32⟩
  | 3 => ⟨S1024x4096, .f32⟩
  | 4 => ⟨S4096x4096, .f32⟩
  | 5 => ⟨S4096, .i32⟩
  | 6 => ⟨S_, .i32⟩
  | 7 => ⟨S4096, .i32⟩
  | 8 => ⟨S4096, .i1⟩
  | 9 => ⟨S_, .i32⟩
  | 10 => ⟨S4096, .i32⟩
  | 11 => ⟨S4096, .i32⟩
  | 12 => ⟨S4096, .i32⟩
  | 13 => ⟨S_, .i32⟩
  | 14 => ⟨S4096, .i32⟩
  | 15 => ⟨S4096, .i1⟩
  | 16 => ⟨S_, .i32⟩
  | 17 => ⟨S4096, .i32⟩
  | 18 => ⟨S4096, .i32⟩
  | 19 => ⟨S4096, .i32⟩
  | 20 => ⟨S4096x1, .i32⟩
  | 21 => ⟨S4096x1, .i32⟩
  | 22 => ⟨S4096x2, .i32⟩
  | 23 => ⟨S_, .f32⟩
  | 24 => ⟨S4096, .f32⟩
  | 25 => ⟨S4096x4096, .f32⟩
  | 26 => ⟨S4096x4096, .i32⟩
  | 27 => ⟨S4096x4096, .f32⟩
  | 28 => ⟨S4096x4096, .i32⟩
  | 29 => ⟨S4096x4096, .i32⟩
  | 30 => ⟨S_, .i32⟩
  | 31 => ⟨S4096x4096, .i32⟩
  | 32 => ⟨S4096x4096, .i1⟩
  | 33 => ⟨S_, .i32⟩
  | 34 => ⟨S4096x4096, .i32⟩
  | 35 => ⟨S4096x4096, .i32⟩
  | 36 => ⟨S4096x4096, .i32⟩
  | 37 => ⟨S4096x4096x1, .i32⟩
  | 38 => ⟨S1, .i32⟩
  | 39 => ⟨S_, .i32⟩
  | 40 => ⟨S4096x4096x1, .i32⟩
  | 41 => ⟨S4096x4096x1, .i1⟩
  | 42 => ⟨S1x1x1, .i32⟩
  | 43 => ⟨S4096x4096x1, .i32⟩
  | 44 => ⟨S4096x4096x1, .i1⟩
  | 45 => ⟨S4096x4096x1, .i1⟩
  | 46 => ⟨S_, .i1⟩
  | 47 => ⟨S4096x4096, .i1⟩
  | 48 => ⟨S4096x4096, .f32⟩
  | 49 => ⟨S_, .f32⟩
  | 50 => ⟨S4096x4096, .f32⟩
  | 51 => ⟨S4096x4096, .f32⟩
  | 52 => ⟨S_, .i32⟩
  | 53 => ⟨S4096x4096, .i32⟩
  | 54 => ⟨S4096x4096, .i1⟩
  | 55 => ⟨S_, .i32⟩
  | 56 => ⟨S4096x4096, .i32⟩
  | 57 => ⟨S4096x4096, .i32⟩
  | 58 => ⟨S4096x4096, .i32⟩
  | 59 => ⟨S4096x4096x1, .i32⟩
  | 60 => ⟨S4096x4096, .i32⟩
  | 61 => ⟨S4096, .i32⟩
  | 62 => ⟨S_, .i32⟩
  | 63 => ⟨S4096x1000, .i32⟩
  | 64 => ⟨S4096x1, .i32⟩
  | 65 => ⟨S1x4096, .i32⟩
  | 66 => ⟨S4096x4096, .i32⟩
  | 67 => ⟨S_, .i32⟩
  | 68 => ⟨S4096x1, .i32⟩
  | 69 => ⟨S4096x1, .i1⟩
  | 70 => ⟨S_, .i32⟩
  | 71 => ⟨S4096x1, .i32⟩
  | 72 => ⟨S4096x1, .i32⟩
  | 73 => ⟨S4096x1, .i32⟩
  | 74 => ⟨S_, .i32⟩
  | 75 => ⟨S4096x4096, .i32⟩
  | 76 => ⟨S4096x4096, .i1⟩
  | 77 => ⟨S_, .i32⟩
  | 78 => ⟨S4096x4096, .i32⟩
  | 79 => ⟨S4096x4096, .i32⟩
  | 80 => ⟨S4096x4096, .i32⟩
  | 81 => ⟨S4096x4096, .i32⟩
  | 82 => ⟨S4096x4096x1, .i32⟩
  | 83 => ⟨S4096x4096x1, .i32⟩
  | 84 => ⟨S4096x4096x2, .i32⟩
  | 85 => ⟨S4096x1000, .i32⟩
  | 86 => ⟨S_, .i32⟩
  | 87 => ⟨S4096x4096, .i32⟩
  | 88 => ⟨S4096x4096, .i1⟩
  | 89 => ⟨S_, .i32⟩
  | 90 => ⟨S4096x4096, .i32⟩
  | 91 => ⟨S4096x4096, .i32⟩
  | 92 => ⟨S4096x4096, .i32⟩
  | 93 => ⟨S4096x4096x1, .i32⟩
  | 94 => ⟨S1, .i32⟩
  | 95 => ⟨S_, .i32⟩
  | 96 => ⟨S4096x4096x1, .i32⟩
  | 97 => ⟨S4096x4096x1, .i1⟩
  | 98 => ⟨S1x1x1, .i32⟩
  | 99 => ⟨S4096x4096x1, .i32⟩
  | 100 => ⟨S4096x4096x1, .i1⟩
  | 101 => ⟨S4096x4096x1, .i1⟩
  | 102 => ⟨S_, .i1⟩
  | 103 => ⟨S4096x4096, .i1⟩
  | 104 => ⟨S4096x4096, .i32⟩
  | 105 => ⟨S_, .i32⟩
  | 106 => ⟨S4096x4096, .i32⟩
  | 107 => ⟨S4096x4096, .i32⟩
  | 108 => ⟨S1x4096, .i32⟩
  | 109 => ⟨S4096x4096, .i32⟩
  | 110 => ⟨S4096x4096, .i1⟩
  | 111 => ⟨S4096x4096, .i32⟩
  | 112 => ⟨S_, .i32⟩
  | 113 => ⟨S_, .i32⟩
  | 114 => ⟨S4096x4096, .i32⟩
  | 115 => ⟨S_, .i32⟩
  | 116 => ⟨S4096x4096, .i32⟩
  | 117 => ⟨S4096x4096, .i32⟩
  | 118 => ⟨S4096x1, .i32⟩
  | 119 => ⟨S_, .i32⟩
  | 120 => ⟨S4096x1, .i32⟩
  | 121 => ⟨S4096x1, .i1⟩
  | 122 => ⟨S_, .i32⟩
  | 123 => ⟨S4096x1, .i32⟩
  | 124 => ⟨S4096x1, .i32⟩
  | 125 => ⟨S4096x1, .i32⟩
  | 126 => ⟨S4096x1x1, .i32⟩
  | 127 => ⟨S1, .i32⟩
  | _ => ⟨S4096, .i32⟩

abbrev hbmTy0_1 (i : Nat) : BufTy := match i % 128 with
  | 0 => ⟨S_, .i32⟩
  | 1 => ⟨S4096x1x1, .i32⟩
  | 2 => ⟨S4096x1x1, .i1⟩
  | 3 => ⟨S1x1x1, .i32⟩
  | 4 => ⟨S4096x1x1, .i32⟩
  | 5 => ⟨S4096x1x1, .i1⟩
  | 6 => ⟨S4096x1x1, .i1⟩
  | 7 => ⟨S_, .i1⟩
  | 8 => ⟨S4096x1, .i1⟩
  | 9 => ⟨S4096x1, .i32⟩
  | 10 => ⟨S_, .i32⟩
  | 11 => ⟨S4096x1, .i32⟩
  | 12 => ⟨S4096x1, .i32⟩
  | 13 => ⟨S4096, .i32⟩
  | 14 => ⟨S4096x1, .i32⟩
  | 15 => ⟨S_, .i32⟩
  | 16 => ⟨S4096x1, .i32⟩
  | 17 => ⟨S4096x1, .i1⟩
  | 18 => ⟨S_, .i32⟩
  | 19 => ⟨S4096x1, .i32⟩
  | 20 => ⟨S4096x1, .i32⟩
  | 21 => ⟨S4096x1, .i32⟩
  | 22 => ⟨S4096x1x1, .i32⟩
  | 23 => ⟨S1, .i32⟩
  | 24 => ⟨S_, .i32⟩
  | 25 => ⟨S4096x1x1, .i32⟩
  | 26 => ⟨S4096x1x1, .i1⟩
  | 27 => ⟨S1x1x1, .i32⟩
  | 28 => ⟨S4096x1x1, .i32⟩
  | 29 => ⟨S4096x1x1, .i1⟩
  | 30 => ⟨S4096x1x1, .i1⟩
  | 31 => ⟨S_, .i1⟩
  | 32 => ⟨S4096x1, .i1⟩
  | 33 => ⟨S4096x1, .i32⟩
  | 34 => ⟨S_, .i32⟩
  | 35 => ⟨S4096x1, .i32⟩
  | 36 => ⟨S4096x1, .i32⟩
  | 37 => ⟨S4096, .i32⟩
  | 38 => ⟨S4096x1, .i32⟩
  | 39 => ⟨S4096, .i32⟩
  | 40 => ⟨S_, .i32⟩
  | 41 => ⟨S4096, .i32⟩
  | 42 => ⟨S4096, .i1⟩
  | 43 => ⟨S_, .i32⟩
  | 44 => ⟨S_, .i32⟩
  | 45 => ⟨S_, .i32⟩
  | 46 => ⟨S4096, .i32⟩
  | 47 => ⟨S4096, .i32⟩
  | 48 => ⟨S_, .i32⟩
  | 49 => ⟨S4096, .i32⟩
  | 50 => ⟨S4096, .i32⟩
  | 51 => ⟨S4096x1, .i32⟩
  | 52 => ⟨S_, .i32⟩
  | 53 => ⟨S4096x1, .i32⟩
  | 54 => ⟨S4096x1, .i1⟩
  | 55 => ⟨S_, .i32⟩
  | 56 => ⟨S4096x1, .i32⟩
  | 57 => ⟨S4096x1, .i32⟩
  | 58 => ⟨S4096x1, .i32⟩
  | 59 => ⟨S4096x1x1, .i32⟩
  | 60 => ⟨S1, .i32⟩
  | 61 => ⟨S_, .i32⟩
  | 62 => ⟨S4096x1x1, .i32⟩
  | 63 => ⟨S4096x1x1, .i1⟩
  | 64 => ⟨S1x1x1, .i32⟩
  | 65 => ⟨S4096x1x1, .i32⟩
  | 66 => ⟨S4096x1x1, .i1⟩
  | 67 => ⟨S4096x1x1, .i1⟩
  | 68 => ⟨S_, .i1⟩
  | 69 => ⟨S4096x1, .i1⟩
  | 70 => ⟨S4096x1, .i32⟩
  | 71 => ⟨S_, .i32⟩
  | 72 => ⟨S4096x1, .i32⟩
  | 73 => ⟨S4096x1, .i32⟩
  | 74 => ⟨S4096, .i32⟩
  | 75 => ⟨S_, .i32⟩
  | 76 => ⟨S_, .i32⟩
  | 77 => ⟨S4096, .i32⟩
  | 78 => ⟨S4096, .i32⟩
  | 79 => ⟨S4096x4096, .f32⟩
  | 80 => ⟨S4096x4096x1, .f32⟩
  | 81 => ⟨S1x1x20, .f32⟩
  | 82 => ⟨S4096x4096x20, .f32⟩
  | 83 => ⟨S4096x4096x20, .f32⟩
  | 84 => ⟨S4096x4096x20, .i1⟩
  | 85 => ⟨S4096x4096x20, .i32⟩
  | 86 => ⟨S_, .i32⟩
  | 87 => ⟨S4096x20, .i32⟩
  | 88 => ⟨S_, .i32⟩
  | 89 => ⟨S4096x20, .i32⟩
  | 90 => ⟨S4096x20, .i32⟩
  | 91 => ⟨S_, .i32⟩
  | 92 => ⟨S4096x20, .i32⟩
  | 93 => ⟨S4096x20, .i1⟩
  | 94 => ⟨S_, .i32⟩
  | 95 => ⟨S4096x20, .i32⟩
  | 96 => ⟨S4096x20, .i32⟩
  | 97 => ⟨S_, .i32⟩
  | 98 => ⟨S_, .i32⟩
  | 99 => ⟨S_, .i32⟩
  | 100 => ⟨S4096x20, .i32⟩
  | 101 => ⟨S4096x20, .i32⟩
  | 102 => ⟨S_, .i32⟩
  | 103 => ⟨S4096x20, .i32⟩
  | 104 => ⟨S4096x20, .i32⟩
  | 105 => ⟨S_, .i32⟩
  | 106 => ⟨S4096x20, .i32⟩
  | 107 => ⟨S4096x20, .i1⟩
  | 108 => ⟨S_, .i32⟩
  | 109 => ⟨S4096x20, .i32⟩
  | 110 => ⟨S4096x20, .i32⟩
  | 111 => ⟨S4096x20, .i32⟩
  | 112 => ⟨S4096x20x1, .i32⟩
  | 113 => ⟨S1, .i32⟩
  | 114 => ⟨S_, .i32⟩
  | 115 => ⟨S4096x20x1, .i32⟩
  | 116 => ⟨S4096x20x1, .i1⟩
  | 117 => ⟨S1x1x1, .i32⟩
  | 118 => ⟨S4096x20x1, .i32⟩
  | 119 => ⟨S4096x20x1, .i1⟩
  | 120 => ⟨S4096x20x1, .i1⟩
  | 121 => ⟨S_, .i1⟩
  | 122 => ⟨S4096x20, .i1⟩
  | 123 => ⟨S4096x20, .i32⟩
  | 124 => ⟨S_, .i32⟩
  | 125 => ⟨S4096x20, .i32⟩
  | 126 => ⟨S4096x20, .i32⟩
  | 127 => ⟨S_, .i32⟩
  | _ => ⟨S4096, .i32⟩

abbrev hbmTy0_2 (i : Nat) : BufTy := match i % 128 with
  | 0 => ⟨S_, .i32⟩
  | 1 => ⟨S4096x20, .i32⟩
  | 2 => ⟨S4096x20, .i32⟩
  | 3 => ⟨S4096x1, .i32⟩
  | 4 => ⟨S4096x1, .i32⟩
  | 5 => ⟨S4096x20, .i32⟩
  | 6 => ⟨S4096x20, .i1⟩
  | 7 => ⟨S4096x20, .i32⟩
  | 8 => ⟨S4096x20, .i1⟩
  | 9 => ⟨S4096x20, .i1⟩
  | 10 => ⟨S4096x1, .i1⟩
  | 11 => ⟨S4096x20, .i1⟩
  | 12 => ⟨S4096x20, .i1⟩
  | 13 => ⟨S4096x20, .i32⟩
  | 14 => ⟨S4096x20, .i32⟩
  | 15 => ⟨S4096x20, .i32⟩
  | 16 => ⟨S4096x1, .i32⟩
  | 17 => ⟨S_, .i32⟩
  | 18 => ⟨S4096x1, .i32⟩
  | 19 => ⟨S4096x1, .i1⟩
  | 20 => ⟨S_, .i32⟩
  | 21 => ⟨S4096x20, .i32⟩
  | 22 => ⟨S4096x20, .i1⟩
  | 23 => ⟨S4096x20, .i1⟩
  | 24 => ⟨S4096x20, .i1⟩
  | 25 => ⟨S4096x20, .f32⟩
  | 26 => ⟨S_, .f32⟩
  | 27 => ⟨S4096x20, .f32⟩
  | 28 => ⟨S4096x20, .f32⟩
  | 29 => ⟨S_, .f32⟩
  | 30 => ⟨S4096x20, .f32⟩
  | 31 => ⟨S4096x20, .f32⟩
  | 32 => ⟨S_, .f32⟩
  | 33 => ⟨S_, .f32⟩
  | 34 => ⟨S4096x20, .f32⟩
  | 35 => ⟨S4096x20, .f32⟩
  | 36 => ⟨S_, .f32⟩
  | 37 => ⟨S20, .f32⟩
  | 38 => ⟨S_, .f32⟩
  | 39 => ⟨S20, .f32⟩
  | 40 => ⟨S20, .f32⟩
  | 41 => ⟨S_, .f32⟩
  | 42 => ⟨S_, .f32⟩
  | _ => ⟨S4096, .i32⟩

abbrev hbmTy (i : Nat) : BufTy := match i / 128 with
  | 0 => hbmTy0_0 i
  | 1 => hbmTy0_1 i
  | 2 => hbmTy0_2 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1_0 : Ref sig .tc := ⟨.hbm, 27, rfl⟩
abbrev main_v18 : Ref sig .tc := ⟨.hbm, 28, rfl⟩
abbrev main_v19 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_cst : Ref sig .tc := ⟨.hbm, 49, rfl⟩
abbrev main_call1_v14 : Ref sig .tc := ⟨.hbm, 50, rfl⟩
abbrev main_v20 : Ref sig .tc := ⟨.hbm, 51, rfl⟩
abbrev main_c_4 : Ref sig .tc := ⟨.hbm, 52, rfl⟩
abbrev main_v21 : Ref sig .tc := ⟨.hbm, 53, rfl⟩
abbrev main_v22 : Ref sig .tc := ⟨.hbm, 54, rfl⟩
abbrev main_c_5 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_c_6 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_c_7 : Ref sig .tc := ⟨.hbm, 67, rfl⟩
abbrev main_v33 : Ref sig .tc := ⟨.hbm, 68, rfl⟩
abbrev main_v34 : Ref sig .tc := ⟨.hbm, 69, rfl⟩
abbrev main_c_8 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_c_9 : Ref sig .tc := ⟨.hbm, 74, rfl⟩
abbrev main_v38 : Ref sig .tc := ⟨.hbm, 75, rfl⟩
abbrev main_v39 : Ref sig .tc := ⟨.hbm, 76, rfl⟩
abbrev main_c_10 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_call2_c : Ref sig .tc := ⟨.hbm, 86, rfl⟩
abbrev main_call2_v0 : Ref sig .tc := ⟨.hbm, 87, rfl⟩
abbrev main_call2_v1 : Ref sig .tc := ⟨.hbm, 88, rfl⟩
abbrev main_call2_c_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_c_1 : Ref sig .tc := ⟨.hbm, 94, rfl⟩
abbrev main_call2_c_2 : Ref sig .tc := ⟨.hbm, 95, rfl⟩
abbrev main_call2_v6 : Ref sig .tc := ⟨.hbm, 96, rfl⟩
abbrev main_call2_v7 : Ref sig .tc := ⟨.hbm, 97, rfl⟩
abbrev main_call2_v8 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_c_3 : Ref sig .tc := ⟨.hbm, 102, rfl⟩
abbrev main_call2_v12 : Ref sig .tc := ⟨.hbm, 103, rfl⟩
abbrev main_call2_v13 : Ref sig .tc := ⟨.hbm, 104, rfl⟩
abbrev main_call2_c_4 : Ref sig .tc := ⟨.hbm, 105, rfl⟩
abbrev main_call2_v14 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_call3_call0_c : Ref sig .tc := ⟨.hbm, 112, rfl⟩
abbrev main_call3_call0_v0 : Ref sig .tc := ⟨.hbm, 113, rfl⟩
abbrev main_v53 : Ref sig .tc := ⟨.hbm, 114, rfl⟩
abbrev main_c_11 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_call4_c : Ref sig .tc := ⟨.hbm, 119, rfl⟩
abbrev main_call4_v0 : Ref sig .tc := ⟨.hbm, 120, rfl⟩
abbrev main_call4_v1 : Ref sig .tc := ⟨.hbm, 121, rfl⟩
abbrev main_call4_c_0 : Ref sig .tc := ⟨.hbm, 122, rfl⟩
abbrev main_call4_v2 : Ref sig .tc := ⟨.hbm, 123, rfl⟩
abbrev main_call4_v3 : Ref sig .tc := ⟨.hbm, 124, rfl⟩
abbrev main_call4_v4 : Ref sig .tc := ⟨.hbm, 125, rfl⟩
abbrev main_call4_v5 : Ref sig .tc := ⟨.hbm, 126, rfl⟩
abbrev main_call4_c_1 : Ref sig .tc := ⟨.hbm, 127, rfl⟩
abbrev main_call4_c_2 : Ref sig .tc := ⟨.hbm, 128, rfl⟩
abbrev main_call4_v6 : Ref sig .tc := ⟨.hbm, 129, rfl⟩
abbrev main_call4_v7 : Ref sig .tc := ⟨.hbm, 130, rfl⟩
abbrev main_call4_v8 : Ref sig .tc := ⟨.hbm, 131, rfl⟩
abbrev main_call4_v9 : Ref sig .tc := ⟨.hbm, 132, rfl⟩
abbrev main_call4_v10 : Ref sig .tc := ⟨.hbm, 133, rfl⟩
abbrev main_call4_v11 : Ref sig .tc := ⟨.hbm, 134, rfl⟩
abbrev main_call4_c_3 : Ref sig .tc := ⟨.hbm, 135, rfl⟩
abbrev main_call4_v12 : Ref sig .tc := ⟨.hbm, 136, rfl⟩
abbrev main_call4_v13 : Ref sig .tc := ⟨.hbm, 137, rfl⟩
abbrev main_call4_c_4 : Ref sig .tc := ⟨.hbm, 138, rfl⟩
abbrev main_call4_v14 : Ref sig .tc := ⟨.hbm, 139, rfl⟩
abbrev main_v57 : Ref sig .tc := ⟨.hbm, 140, rfl⟩
abbrev main_v58 : Ref sig .tc := ⟨.hbm, 141, rfl⟩
abbrev main_v59 : Ref sig .tc := ⟨.hbm, 142, rfl⟩
abbrev main_call5_c : Ref sig .tc := ⟨.hbm, 143, rfl⟩
abbrev main_call5_v0 : Ref sig .tc := ⟨.hbm, 144, rfl⟩
abbrev main_call5_v1 : Ref sig .tc := ⟨.hbm, 145, rfl⟩
abbrev main_call5_c_0 : Ref sig .tc := ⟨.hbm, 146, rfl⟩
abbrev main_call5_v2 : Ref sig .tc := ⟨.hbm, 147, rfl⟩
abbrev main_call5_v3 : Ref sig .tc := ⟨.hbm, 148, rfl⟩
abbrev main_call5_v4 : Ref sig .tc := ⟨.hbm, 149, rfl⟩
abbrev main_call5_v5 : Ref sig .tc := ⟨.hbm, 150, rfl⟩
abbrev main_call5_c_1 : Ref sig .tc := ⟨.hbm, 151, rfl⟩
abbrev main_call5_c_2 : Ref sig .tc := ⟨.hbm, 152, rfl⟩
abbrev main_call5_v6 : Ref sig .tc := ⟨.hbm, 153, rfl⟩
abbrev main_call5_v7 : Ref sig .tc := ⟨.hbm, 154, rfl⟩
abbrev main_call5_v8 : Ref sig .tc := ⟨.hbm, 155, rfl⟩
abbrev main_call5_v9 : Ref sig .tc := ⟨.hbm, 156, rfl⟩
abbrev main_call5_v10 : Ref sig .tc := ⟨.hbm, 157, rfl⟩
abbrev main_call5_v11 : Ref sig .tc := ⟨.hbm, 158, rfl⟩
abbrev main_call5_c_3 : Ref sig .tc := ⟨.hbm, 159, rfl⟩
abbrev main_call5_v12 : Ref sig .tc := ⟨.hbm, 160, rfl⟩
abbrev main_call5_v13 : Ref sig .tc := ⟨.hbm, 161, rfl⟩
abbrev main_call5_c_4 : Ref sig .tc := ⟨.hbm, 162, rfl⟩
abbrev main_call5_v14 : Ref sig .tc := ⟨.hbm, 163, rfl⟩
abbrev main_v60 : Ref sig .tc := ⟨.hbm, 164, rfl⟩
abbrev main_v61 : Ref sig .tc := ⟨.hbm, 165, rfl⟩
abbrev main_v62 : Ref sig .tc := ⟨.hbm, 166, rfl⟩
abbrev main_v63 : Ref sig .tc := ⟨.hbm, 167, rfl⟩
abbrev main_c_12 : Ref sig .tc := ⟨.hbm, 168, rfl⟩
abbrev main_v64 : Ref sig .tc := ⟨.hbm, 169, rfl⟩
abbrev main_v65 : Ref sig .tc := ⟨.hbm, 170, rfl⟩
abbrev main_c_13 : Ref sig .tc := ⟨.hbm, 171, rfl⟩
abbrev main_c_14 : Ref sig .tc := ⟨.hbm, 172, rfl⟩
abbrev main_call6_v0 : Ref sig .tc := ⟨.hbm, 173, rfl⟩
abbrev main_call6_v1 : Ref sig .tc := ⟨.hbm, 174, rfl⟩
abbrev main_call6_v2 : Ref sig .tc := ⟨.hbm, 175, rfl⟩
abbrev main_call6_v3 : Ref sig .tc := ⟨.hbm, 176, rfl⟩
abbrev main_call6_v4 : Ref sig .tc := ⟨.hbm, 177, rfl⟩
abbrev main_v66 : Ref sig .tc := ⟨.hbm, 178, rfl⟩
abbrev main_v67 : Ref sig .tc := ⟨.hbm, 179, rfl⟩
abbrev main_call7_c : Ref sig .tc := ⟨.hbm, 180, rfl⟩
abbrev main_call7_v0 : Ref sig .tc := ⟨.hbm, 181, rfl⟩
abbrev main_call7_v1 : Ref sig .tc := ⟨.hbm, 182, rfl⟩
abbrev main_call7_c_0 : Ref sig .tc := ⟨.hbm, 183, rfl⟩
abbrev main_call7_v2 : Ref sig .tc := ⟨.hbm, 184, rfl⟩
abbrev main_call7_v3 : Ref sig .tc := ⟨.hbm, 185, rfl⟩
abbrev main_call7_v4 : Ref sig .tc := ⟨.hbm, 186, rfl⟩
abbrev main_call7_v5 : Ref sig .tc := ⟨.hbm, 187, rfl⟩
abbrev main_call7_c_1 : Ref sig .tc := ⟨.hbm, 188, rfl⟩
abbrev main_call7_c_2 : Ref sig .tc := ⟨.hbm, 189, rfl⟩
abbrev main_call7_v6 : Ref sig .tc := ⟨.hbm, 190, rfl⟩
abbrev main_call7_v7 : Ref sig .tc := ⟨.hbm, 191, rfl⟩
abbrev main_call7_v8 : Ref sig .tc := ⟨.hbm, 192, rfl⟩
abbrev main_call7_v9 : Ref sig .tc := ⟨.hbm, 193, rfl⟩
abbrev main_call7_v10 : Ref sig .tc := ⟨.hbm, 194, rfl⟩
abbrev main_call7_v11 : Ref sig .tc := ⟨.hbm, 195, rfl⟩
abbrev main_call7_c_3 : Ref sig .tc := ⟨.hbm, 196, rfl⟩
abbrev main_call7_v12 : Ref sig .tc := ⟨.hbm, 197, rfl⟩
abbrev main_call7_v13 : Ref sig .tc := ⟨.hbm, 198, rfl⟩
abbrev main_call7_c_4 : Ref sig .tc := ⟨.hbm, 199, rfl⟩
abbrev main_call7_v14 : Ref sig .tc := ⟨.hbm, 200, rfl⟩
abbrev main_v68 : Ref sig .tc := ⟨.hbm, 201, rfl⟩
abbrev main_v69 : Ref sig .tc := ⟨.hbm, 202, rfl⟩
abbrev main_c_15 : Ref sig .tc := ⟨.hbm, 203, rfl⟩
abbrev main_call8_v0 : Ref sig .tc := ⟨.hbm, 204, rfl⟩
abbrev main_call8_v1 : Ref sig .tc := ⟨.hbm, 205, rfl⟩
abbrev main_v70 : Ref sig .tc := ⟨.hbm, 206, rfl⟩
abbrev main_v71 : Ref sig .tc := ⟨.hbm, 207, rfl⟩
abbrev main_v72 : Ref sig .tc := ⟨.hbm, 208, rfl⟩
abbrev main_v73 : Ref sig .tc := ⟨.hbm, 209, rfl⟩
abbrev main_v74 : Ref sig .tc := ⟨.hbm, 210, rfl⟩
abbrev main_v75 : Ref sig .tc := ⟨.hbm, 211, rfl⟩
abbrev main_v76 : Ref sig .tc := ⟨.hbm, 212, rfl⟩
abbrev main_v77 : Ref sig .tc := ⟨.hbm, 213, rfl⟩
abbrev main_c_16 : Ref sig .tc := ⟨.hbm, 214, rfl⟩
abbrev main_v78 : Ref sig .tc := ⟨.hbm, 215, rfl⟩
abbrev main_c_17 : Ref sig .tc := ⟨.hbm, 216, rfl⟩
abbrev main_v79 : Ref sig .tc := ⟨.hbm, 217, rfl⟩
abbrev main_v80 : Ref sig .tc := ⟨.hbm, 218, rfl⟩
abbrev main_c_18 : Ref sig .tc := ⟨.hbm, 219, rfl⟩
abbrev main_v81 : Ref sig .tc := ⟨.hbm, 220, rfl⟩
abbrev main_v82 : Ref sig .tc := ⟨.hbm, 221, rfl⟩
abbrev main_c_19 : Ref sig .tc := ⟨.hbm, 222, rfl⟩
abbrev main_v83 : Ref sig .tc := ⟨.hbm, 223, rfl⟩
abbrev main_v84 : Ref sig .tc := ⟨.hbm, 224, rfl⟩
abbrev main_c_20 : Ref sig .tc := ⟨.hbm, 225, rfl⟩
abbrev main_c_21 : Ref sig .tc := ⟨.hbm, 226, rfl⟩
abbrev main_call9_v0 : Ref sig .tc := ⟨.hbm, 227, rfl⟩
abbrev main_call9_v1 : Ref sig .tc := ⟨.hbm, 228, rfl⟩
abbrev main_call9_v2 : Ref sig .tc := ⟨.hbm, 229, rfl⟩
abbrev main_call9_v3 : Ref sig .tc := ⟨.hbm, 230, rfl⟩
abbrev main_call9_v4 : Ref sig .tc := ⟨.hbm, 231, rfl⟩
abbrev main_v85 : Ref sig .tc := ⟨.hbm, 232, rfl⟩
abbrev main_call10_c : Ref sig .tc := ⟨.hbm, 233, rfl⟩
abbrev main_call10_v0 : Ref sig .tc := ⟨.hbm, 234, rfl⟩
abbrev main_call10_v1 : Ref sig .tc := ⟨.hbm, 235, rfl⟩
abbrev main_call10_c_0 : Ref sig .tc := ⟨.hbm, 236, rfl⟩
abbrev main_call10_v2 : Ref sig .tc := ⟨.hbm, 237, rfl⟩
abbrev main_call10_v3 : Ref sig .tc := ⟨.hbm, 238, rfl⟩
abbrev main_call10_v4 : Ref sig .tc := ⟨.hbm, 239, rfl⟩
abbrev main_call10_v5 : Ref sig .tc := ⟨.hbm, 240, rfl⟩
abbrev main_call10_c_1 : Ref sig .tc := ⟨.hbm, 241, rfl⟩
abbrev main_call10_c_2 : Ref sig .tc := ⟨.hbm, 242, rfl⟩
abbrev main_call10_v6 : Ref sig .tc := ⟨.hbm, 243, rfl⟩
abbrev main_call10_v7 : Ref sig .tc := ⟨.hbm, 244, rfl⟩
abbrev main_call10_v8 : Ref sig .tc := ⟨.hbm, 245, rfl⟩
abbrev main_call10_v9 : Ref sig .tc := ⟨.hbm, 246, rfl⟩
abbrev main_call10_v10 : Ref sig .tc := ⟨.hbm, 247, rfl⟩
abbrev main_call10_v11 : Ref sig .tc := ⟨.hbm, 248, rfl⟩
abbrev main_call10_c_3 : Ref sig .tc := ⟨.hbm, 249, rfl⟩
abbrev main_call10_v12 : Ref sig .tc := ⟨.hbm, 250, rfl⟩
abbrev main_call10_v13 : Ref sig .tc := ⟨.hbm, 251, rfl⟩
abbrev main_call10_c_4 : Ref sig .tc := ⟨.hbm, 252, rfl⟩
abbrev main_call10_v14 : Ref sig .tc := ⟨.hbm, 253, rfl⟩
abbrev main_v86 : Ref sig .tc := ⟨.hbm, 254, rfl⟩
abbrev main_c_22 : Ref sig .tc := ⟨.hbm, 255, rfl⟩
abbrev main_call11_v0 : Ref sig .tc := ⟨.hbm, 256, rfl⟩
abbrev main_call11_v1 : Ref sig .tc := ⟨.hbm, 257, rfl⟩
abbrev main_v87 : Ref sig .tc := ⟨.hbm, 258, rfl⟩
abbrev main_v88 : Ref sig .tc := ⟨.hbm, 259, rfl⟩
abbrev main_v89 : Ref sig .tc := ⟨.hbm, 260, rfl⟩
abbrev main_v90 : Ref sig .tc := ⟨.hbm, 261, rfl⟩
abbrev main_v91 : Ref sig .tc := ⟨.hbm, 262, rfl⟩
abbrev main_v92 : Ref sig .tc := ⟨.hbm, 263, rfl⟩
abbrev main_v93 : Ref sig .tc := ⟨.hbm, 264, rfl⟩
abbrev main_v94 : Ref sig .tc := ⟨.hbm, 265, rfl⟩
abbrev main_v95 : Ref sig .tc := ⟨.hbm, 266, rfl⟩
abbrev main_v96 : Ref sig .tc := ⟨.hbm, 267, rfl⟩
abbrev main_v97 : Ref sig .tc := ⟨.hbm, 268, rfl⟩
abbrev main_v98 : Ref sig .tc := ⟨.hbm, 269, rfl⟩
abbrev main_v99 : Ref sig .tc := ⟨.hbm, 270, rfl⟩
abbrev main_v100 : Ref sig .tc := ⟨.hbm, 271, rfl⟩
abbrev main_v101 : Ref sig .tc := ⟨.hbm, 272, rfl⟩
abbrev main_c_23 : Ref sig .tc := ⟨.hbm, 273, rfl⟩
abbrev main_v102 : Ref sig .tc := ⟨.hbm, 274, rfl⟩
abbrev main_v103 : Ref sig .tc := ⟨.hbm, 275, rfl⟩
abbrev main_c_24 : Ref sig .tc := ⟨.hbm, 276, rfl⟩
abbrev main_v104 : Ref sig .tc := ⟨.hbm, 277, rfl⟩
abbrev main_v105 : Ref sig .tc := ⟨.hbm, 278, rfl⟩
abbrev main_v106 : Ref sig .tc := ⟨.hbm, 279, rfl⟩
abbrev main_v107 : Ref sig .tc := ⟨.hbm, 280, rfl⟩
abbrev main_v108 : Ref sig .tc := ⟨.hbm, 281, rfl⟩
abbrev main_cst_25 : Ref sig .tc := ⟨.hbm, 282, rfl⟩
abbrev main_v109 : Ref sig .tc := ⟨.hbm, 283, rfl⟩
abbrev main_v110 : Ref sig .tc := ⟨.hbm, 284, rfl⟩
abbrev main_cst_26 : Ref sig .tc := ⟨.hbm, 285, rfl⟩
abbrev main_v111 : Ref sig .tc := ⟨.hbm, 286, rfl⟩
abbrev main_v112 : Ref sig .tc := ⟨.hbm, 287, rfl⟩
abbrev main_cst_27 : Ref sig .tc := ⟨.hbm, 288, rfl⟩
abbrev main_call12_v0 : Ref sig .tc := ⟨.hbm, 289, rfl⟩
abbrev main_call12_v1 : Ref sig .tc := ⟨.hbm, 290, rfl⟩
abbrev main_v113 : Ref sig .tc := ⟨.hbm, 291, rfl⟩
abbrev main_cst_28 : Ref sig .tc := ⟨.hbm, 292, rfl⟩
abbrev main_v114 : Ref sig .tc := ⟨.hbm, 293, rfl⟩
abbrev main_cst_29 : Ref sig .tc := ⟨.hbm, 294, rfl⟩
abbrev main_v115 : Ref sig .tc := ⟨.hbm, 295, rfl⟩
abbrev main_v116 : Ref sig .tc := ⟨.hbm, 296, rfl⟩
abbrev main_cst_30 : Ref sig .tc := ⟨.hbm, 297, rfl⟩
abbrev main_v117 : Ref sig .tc := ⟨.hbm, 298, rfl⟩

abbrev nD : Nat := 1
abbrev τ : Topo := Topo.v7x

variable {F : FTy → Type} [FloatOps F]
-- ==== Proof.KernelIdeal.Points.lean ====
/-
Facts shared by the runs of the kernel's body: the two branch conditions read off the grid point,
the points at which the output window is idle, the staging buffers, and the two scratch buffers.
-/
module

public import proofs.«01_k».proof.Proof.Gen.KernelIdeal.Skeleton
public import proofs.«01_k».proof.Proof.Gen.KernelIdeal.Frame

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The body's first branch is taken: the grid point is the first. -/
abbrev cond0_0 (i : grid0.Coords) : Prop := (Scalar.cmpi .ne (Scalar.extui (Scalar.cmpi .eq (BitVec.ofNat 32 (i 0).val) 0#32)) 0#32) = 1#1
/-- The first branch is taken at position 0 only. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-- The body's second branch is taken: the grid point is the last. -/
abbrev cond0_1 (i : grid0.Coords) : Prop := k0_cond2 i = 1#1
/-- The second branch is taken at position 31 only. -/
theorem hcond0_1 : ∀ t : Fin cfg0.N, cond0_1 (grid0.coords t) ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [cond0_1, k0_cond2, e0]
    word_cmp
   : ∀ t : Fin grid0.N, cond0_1 (grid0.coords t) ↔ t.val % 32 = 31)

/-! ## Where the windows are idle -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- At the first point the output window is idle: the body stores nothing into it. -/
theorem idleAt0_4_A : ∀ t : Fin cfg0.N, cond0_0 (grid0.coords t) → ¬cond0_1 (grid0.coords t) → cfg0.idle 4 (grid0.coords t) = true := by decide +kernel
/-- At the first point the output block is not written back. -/
theorem noFlush0_4_A : ∀ t : Fin cfg0.N, cond0_0 (grid0.coords t) → ¬cond0_1 (grid0.coords t) → (cfg0.win 4).flush t = false := by decide +kernel
/-- At the middle points the output window is idle: the body stores nothing into it. -/
theorem idleAt0_4_B : ∀ t : Fin cfg0.N, ¬cond0_0 (grid0.coords t) → ¬cond0_1 (grid0.coords t) → cfg0.idle 4 (grid0.coords t) = true := by decide +kernel
/-- At the middle points the output block is not written back. -/
theorem noFlush0_4_B : ∀ t : Fin cfg0.N, ¬cond0_0 (grid0.coords t) → ¬cond0_1 (grid0.coords t) → (cfg0.win 4).flush t = false := by decide +kernel
/-- At the last point the output window is live: the body stores into it. -/
theorem liveAt0_4_C : ∀ t : Fin cfg0.N, ¬cond0_0 (grid0.coords t) → cond0_1 (grid0.coords t) → cfg0.idle 4 (grid0.coords t) = false := by decide +kernel

/-! ## The staging buffers and the scratch buffers -/

/-- Each window's staging buffer at point `t`, and that it is a whole buffer. -/
abbrev ms0_0 (t : Fin cfg0.N) : Memref sig .tc .vmem S1x4096 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128 .f32 := win0_4.stage (cfg0.slots t 4)
abbrev hs0_4 (t : Fin cfg0.N) : (ms0_4 t).IsWhole := hstage0_4 ((cfg0.slots t 4).cast nbuf0_4)
/-- The scratch buffers: the one-hot table and the running totals. -/
abbrev scM0_0 : Memref sig .tc .vmem S4096x1024 .bf16 := Memref.whole cc0_scratch0
/-- Scratch buffer 1 of the launch. -/
abbrev scM0_1 : Memref sig .tc .vmem S1x128 .f32 := Memref.whole cc0_scratch1

/-- The invariant before the first point: both scratch buffers owned at some contents, and the random-number register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KernelIdeal.Values.lean ====
/-
What the kernel's body computes at one grid point, as functions of the blocks it is handed: the
one-hot table written at the first point, the twenty-lane sweep over the thresholds, the running
totals after a point, and the block written at the last point.
-/
module

public import proofs.«01_k».proof.Proof.KernelIdeal.Points
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The twenty thresholds' bit patterns, each with the lane that holds its total. -/
def thrList : List (BitVec 32 × BitVec 32) :=
  [(0#32, 0x3F800000#32), (1#32, 0x3F733333#32), (2#32, 0x3F666666#32), (3#32, 0x3F59999A#32),
   (4#32, 0x3F4CCCCD#32), (5#32, 0x3F400000#32), (6#32, 0x3F333333#32), (7#32, 0x3F266666#32),
   (8#32, 0x3F19999A#32), (9#32, 0x3F0CCCCD#32), (10#32, 0x3F000000#32), (11#32, 0x3EE66666#32),
   (12#32, 0x3ECCCCCD#32), (13#32, 0x3EB33333#32), (14#32, 0x3E99999A#32), (15#32, 0x3E800000#32),
   (16#32, 0x3E4CCCCD#32), (17#32, 0x3E19999A#32), (18#32, 0x3DCCCCCD#32), (19#32, 0x3D4CCCCD#32)]

/-- The rows' scores for the threshold with bit pattern `tb`: from the row's label, its best score
    among its own label, its rank and whether label zero's best comes after its own. -/
def apkV (tb : BitVec 32) (lab : IVec S128x1 32) (sL : FVec F S128x1 .f32) (q : IVec S128x1 32)
    (zlt : IVec S128x1 1) : FVec F S128x1 .f32 :=
  let rank : IVec S128x1 32 :=
    addi q (extui 32 (andi (cmpf .olt sL (broadcast S128x1 (Scalar.ofBits .f32 tb))) zlt) natLt_1_32)
  select (ori (cmpi .eq lab (broadcast S128x1 0#32)) (cmpi .sge rank (broadcast S128x1 5#32)))
    (broadcast S128x1 (Scalar.ofBits .f32 0x00000000#32))
    (divf (broadcast S128x1 (Scalar.ofBits .f32 0x3F800000#32))
      (addf (sitofp .f32 rank) (broadcast S128x1 (Scalar.ofBits .f32 0x3F800000#32))))

/-- One threshold's contribution to the totals: the sum of the rows' scores in its own lane, zero in
    the other lanes. -/
def laneV (p : BitVec 32 × BitVec 32) (lab : IVec S128x1 32) (sL : FVec F S128x1 .f32)
    (q : IVec S128x1 32) (zlt : IVec S128x1 1) : FVec F S1x128 .f32 :=
  select (cmpi .eq (iota .tc S1x128 32 [1] iota_S1x128_d1_w32) (broadcast S1x128 p.1))
    (broadcast S1x128 (extractAt ![0, 0, 0]
      (shapeCast S1x1x1 (multiReduction .add [1, 2] S1
        (shapeCast S1x128x1 (apkV p.2 lab sL q zlt) shapeCasts_S128x1_S1x128x1)
        0x00000000#32 reduces_S1x128x1_S1 (.inl rfl) rfl) shapeCasts_S1_S1x1x1) inpos_S1x1x1_p0_0_0))
    (broadcast S1x128 (Scalar.ofBits .f32 0x00000000#32))

/-- The totals one block of rows contributes, all thresholds together. -/
def sweepV (lab : IVec S128x1 32) (sL : FVec F S128x1 .f32) (q : IVec S128x1 32)
    (zlt : IVec S128x1 1) : FVec F S1x128 .f32 :=
  thrList.foldl (fun a p => addf a (laneV p lab sL q zlt))
    (broadcast S1x128 (Scalar.ofBits .f32 0x00000000#32))

/-- The column numbers, as the body makes them. -/
abbrev laneN : IVec S1x4096 32 := iota .tc S1x4096 32 [1] iota_S1x4096_d1_w32

/-- The block's rows of the label column. -/
def rowsOf (i : grid0.Coords) (x1 : Vec F S4096x1 .i32) : Vec F S128x1 .i32 :=
  View.ld x1 (Rect.unit (s := S4096x1) (k0_off1 i) S128x1.size (k0_off1_inb i))

/-- A row's rank: the number of labels met before its own label's best entry. -/
def rankV (i : grid0.Coords) (x0 : Vec F S1x4096 .i32) (r : Vec F S128x1 .i32)
    (x2 : Vec F S128x1024 .f32) (x3 : Vec F S4096x1024 .f32) (oh : Vec F S4096x1024 .bf16) : IVec S128x1 32 :=
  k0_pay13 laneN (k0_pay6 i x2 x3) (k0_pay9 i x2 x3 x0 r) (k0_pay11 i x2 x3 x0 r) oh

/-- Whether label zero's best entry comes after the row's own label's best entry. -/
def zltV (i : grid0.Coords) (x0 : Vec F S1x4096 .i32) (r : Vec F S128x1 .i32)
    (x2 : Vec F S128x1024 .f32) (x3 : Vec F S4096x1024 .f32) : IVec S128x1 1 :=
  k0_pay14 laneN (k0_pay6 i x2 x3) (k0_pay8 x0) (k0_pay9 i x2 x3 x0 r) (k0_pay10 i x2 x3 x0)
    (k0_pay11 i x2 x3 x0 r)

/-- The totals the block at grid point `i` contributes. -/
def blockV (i : grid0.Coords) (x0 : Vec F S1x4096 .i32) (r : Vec F S128x1 .i32)
    (x2 : Vec F S128x1024 .f32) (x3 : Vec F S4096x1024 .f32) (oh : Vec F S4096x1024 .bf16) : FVec F S1x128 .f32 :=
  sweepV (k0_pay5 r) (k0_pay9 i x2 x3 x0 r) (rankV i x0 r x2 x3 oh) (zltV i x0 r x2 x3)

/-- The running totals after grid point `i`, from those before it: the block's own at the first
    point, the sum elsewhere. -/
def stepV (i : grid0.Coords) (x0 : Vec F S1x4096 .i32) (r : Vec F S128x1 .i32)
    (x2 : Vec F S128x1024 .f32) (x3 : Vec F S4096x1024 .f32) (oh : Vec F S4096x1024 .bf16)
    (a : Vec F S1x128 .f32) : Vec F S1x128 .f32 :=
  k0_pay1 (Scalar.select (Scalar.cmpi .eq (BitVec.ofNat 32 (i 0).val) 0#32) (blockV i x0 r x2 x3 oh)
    (addf a (blockV i x0 r x2 x3 oh)))

/-- The body's long chain of threshold steps, started from the values it reads, is the running total
    of the sweep. -/
theorem chain_eq (arg0 : BitVec 32) (v11 : IVec S128x1 32) (v12 : IVec S1x4096 32) (v21 : FVec F S128x4096 .f32)
    (v26 : IVec S1x4096 1) (v30 v36 : FVec F S128x1 .f32) (v39 : IVec S128x4096 1) (v68 : Vec F S4096x1024 .bf16)
    (v623 : Vec F S1x128 .f32) (v74 : IVec S128x1 32) (h74 : v74 = k0_pay13 v12 v21 v30 v39 v68)
    (v79 : IVec S128x1 1) (h79 : v79 = k0_pay14 v12 v21 v26 v30 v36 v39)
    (v80 : IVec S1x128 32) (h80 : v80 = iota .tc S1x128 32 [1] iota_S1x128_d1_w32) :
    k0_pay55 arg0 v11 v30 v74 v79 v80
      (k0_pay51 v11 v30 v74 v79 v80
        (k0_pay48 v11 v80
          (k0_pay45 v11 v30 v74 v79 v80
            (k0_pay41 v11 v30 v74 v79 v80
              (k0_pay38 v11 v80
                (k0_pay35 v11 v30 v74 v79 v80
                  (k0_pay31 v11 v30 v74 v79 v80
                    (k0_pay28 v11 v80
                      (k0_pay25 v11 v30 v74 v79 v80
                        (k0_pay21 v11 v30 v74 v79 v80
                          (k0_pay18 v11 v80 k0_pay15 (k0_pay16 v12 v21 v26 v30 v36 v39 v68) k0_pay17)
                          (k0_pay19 v80) (k0_pay20 v11 v30 v74 v79) (Scalar.ofBits .f32 0x00000000#32))
                        (k0_pay23 v11 v30 v74 v79) (k0_pay24 v30 v74 v79))
                      (k0_pay26 v30 v74 v79) k0_pay27)
                    (k0_pay29 v80) (k0_pay30 v11 v30 v74 v79) (Scalar.ofBits .f32 0x00000000#32))
                  (k0_pay33 v11 v30 v74 v79) (k0_pay34 v30 v74 v79))
                (k0_pay36 v30 v74 v79) k0_pay37)
              (k0_pay39 v80) (k0_pay40 v11 v30 v74 v79) (Scalar.ofBits .f32 0x00000000#32))
            (k0_pay43 v11 v30 v74 v79) (k0_pay44 v30 v74 v79))
          (k0_pay46 v30 v74 v79) k0_pay47)
        (k0_pay49 v80) (k0_pay50 v11 v30 v74 v79) (Scalar.ofBits .f32 0x00000000#32))
      (k0_pay53 v11 v30 v74 v79) (k0_pay54 v30 v74 v79) v623
      = Scalar.select (Scalar.cmpi .eq arg0 0#32) (sweepV v11 v30 v74 v79) (addf v623 (sweepV v11 v30 v74 v79)) := by
  have h16 : k0_pay16 v12 v21 v26 v30 v36 v39 v68
      = addi v74 (extui 32 (andi (cmpf .olt v30 (broadcast S128x1 (Scalar.ofBits .f32 0x3F800000#32))) v79) natLt_1_32) := by
    rw [h74, h79]; rfl
  rw [h16]
  clear h16 h74 h79
  subst h80
  rfl

/-- The block written at the last point, from the final totals. -/
def lastV (a : Vec F S1x128 .f32) : Vec F S8x128 .f32 :=
  k0_pay2 (iota .tc S1x128 32 [1] iota_S1x128_d1_w32) a

/-- At the first point the totals before it do not matter. -/
theorem stepV_first (i : grid0.Coords) (h : cond0_0 i) (x0 : Vec F S1x4096 .i32) (r : Vec F S128x1 .i32)
    (x2 : Vec F S128x1024 .f32) (x3 : Vec F S4096x1024 .f32) (oh : Vec F S4096x1024 .bf16)
    (a : Vec F S1x128 .f32) : stepV i x0 r x2 x3 oh a = k0_pay1 (blockV i x0 r x2 x3 oh) := by
  have h1 : Scalar.cmpi .eq (BitVec.ofNat 32 (i 0).val) 0#32 = 1#1 := by
    have h' : Scalar.cmpi .ne (Scalar.extui (Scalar.cmpi .eq (BitVec.ofNat 32 (i 0).val) 0#32) : BitVec 32) 0#32 = 1#1 := h
    revert h'
    generalize Scalar.cmpi .eq (BitVec.ofNat 32 (i 0).val) 0#32 = b
    revert b; decide
  unfold stepV
  rw [h1]; rfl

end Cert.KernelIdeal.Hand

end
-- ==== Proof.KernelIdeal.RunA.lean ====
/-
The kernel's body run at the first grid point.
-/
module

public import proofs.«01_k».proof.Proof.KernelIdeal.Values

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body at the first grid point: the one-hot table is written into its scratch buffer, the totals scratch
    holds the first block's totals whatever it held before, and the output block is left alone. -/
theorem runA (c : Dev nD) (i : grid0.Coords) (arg1 : Memref sig .tc .vmem S1x4096 .i32) (harg1 : arg1.IsWhole) (arg2 : Memref sig .tc .vmem S4096x1 .i32) (harg2 : arg2.IsWhole) (arg3 : Memref sig .tc .vmem S128x1024 .f32) (harg3 : arg3.IsWhole) (arg4 : Memref sig .tc .vmem S4096x1024 .f32) (harg4 : arg4.IsWhole) (arg5 : Memref sig .tc .vmem S8x128 .f32) (harg5 : arg5.IsWhole) (arg6 : Memref sig .tc .vmem S4096x1024 .bf16) (harg6 : arg6.IsWhole) (arg7 : Memref sig .tc .vmem S1x128 .f32) (harg7 : arg7.IsWhole) (hc0 : cond0_0 i) (hc1 : ¬cond0_1 i)
    (x0 : Vec F S1x4096 .i32) (x1 : Vec F S4096x1 .i32) (x2 : Vec F S128x1024 .f32) (x3 : Vec F S4096x1024 .f32)
    (y : Vec F S8x128 .f32) (a : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y ∗ (∃ d, owns (c : Thread nD τ) arg6 fullShare d) ∗ owns (c : Thread nD τ) arg7 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y ∗ owns (c : Thread nD τ) arg6 fullShare (k0_pay3 x1) ∗ owns (c : Thread nD τ) arg7 fullShare (stepV i x0 (rowsOf i x1) x2 x3 (k0_pay3 x1) a)) -∗ K ⟨⟩))
      ⊢ wp frame (wpE (defs₀ (F := F)) Variants.none c none) E (cc0__tc_body i arg1 harg1 arg2 harg2 arg3 harg3 arg4 harg4 arg5 harg5 arg6 harg6 arg7 harg7) K := by
  simp only [cc0__tc_body_eq_skeleton]; unfold cc0__tc_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%f7, %hf7, H7⟩, Hk⟩
  obtain rfl := harg1.eq_unread hf0; obtain rfl := harg2.eq_unread hf1; obtain rfl := harg3.eq_unread hf2; obtain rfl := harg4.eq_unread hf3; obtain rfl := harg5.eq_unread hf4; obtain rfl := harg7.eq_unread hf7
  have e1 : (View.readAt (Elt F) arg1.view (Rect.unit (s := S1x4096) ![0, 0] S1x4096.size inb_S1x4096_S1x4096_0_0).toLoadRect (harg1.unread x0)) = x0 := (View.readAt_full _ _ _).trans (harg1.read_unread _)
  have e2 : (View.readAt (Elt F) arg2.view (Rect.unit (s := S4096x1) ![0, 0] S4096x1.size inb_S4096x1_S4096x1_0_0).toLoadRect (harg2.unread x1)) = x1 := (View.readAt_full _ _ _).trans (harg2.read_unread _)
  have e3 : (View.readAt (Elt F) arg3.view (Rect.unit (s := S128x1024) ![0, 0] S128x1024.size inb_S128x1024_S128x1024_0_0).toLoadRect (harg3.unread x2)) = x2 := (View.readAt_full _ _ _).trans (harg3.read_unread _)
  have e4 : (View.readAt (Elt F) arg4.view (Rect.unit (s := S4096x1024) ![0, 0] S4096x1024.size inb_S4096x1024_S4096x1024_0_0).toLoadRect (harg4.unread x3)) = x3 := (View.readAt_full _ _ _).trans (harg4.read_unread _)
  have eR : (View.readAt (Elt F) arg2.view (Rect.unit (s := S4096x1) (k0_off1 i) S128x1.size (k0_off1_inb i)).toLoadRect (harg2.unread x1)) = rowsOf i x1 :=
    congrArg (fun X => View.ld X (Rect.unit (s := S4096x1) (k0_off1 i) S128x1.size (k0_off1_inb i))) (harg2.read_unread x1)
  have eO : (arg6.view.readCov (Val := Elt F) [(⟨Rect.unit (s := S4096x1024) ![0, 0] S4096x1024.size inb_S4096x1024_S4096x1024_0_0, k0_pay3 x1⟩ : View.Piece (Elt F) S4096x1024 .bf16)] (Rect.unit (s := S4096x1024) ![0, 0] S4096x1024.size inb_S4096x1024_S4096x1024_0_0).toLoadRect) = (k0_pay3 x1) := View.readCov_full _ _ _ _ _
  have eA : (View.readAt (Elt F) arg7.view (Rect.unit (s := S1x128) ![0, 0] S1x128.size inb_S1x128_S1x128_0_0).toLoadRect (harg7.unread a)) = a := (View.readAt_full _ _ _).trans (harg7.read_unread _)
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H6]
  · iexists _; isplitr
    swap; · iexact H6
    ipureintro
    refine (View.read_writes_full _ _ _ _ _).trans ?_
    rfl
  iexists _; isplitr
  swap; · iexact H7
  · ipureintro
    refine (View.read_writes_full _ _ _ _ _).trans ?_
    sl_unfold_words
    exact congrArg k0_pay1 (chain_eq _ _ _ _ _ _ _ _ _ _ _ rfl _ rfl _ rfl)

end Cert.KernelIdeal.Hand

end
-- ==== Proof.KernelIdeal.RunB.lean ====
/-
The kernel's body run at a middle grid point.
-/
module

public import proofs.«01_k».proof.Proof.KernelIdeal.Values

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body at a middle grid point: the one-hot table is kept, the totals gain the block's own, and the output
    block is left alone. -/
theorem runB (c : Dev nD) (i : grid0.Coords) (arg1 : Memref sig .tc .vmem S1x4096 .i32) (harg1 : arg1.IsWhole) (arg2 : Memref sig .tc .vmem S4096x1 .i32) (harg2 : arg2.IsWhole) (arg3 : Memref sig .tc .vmem S128x1024 .f32) (harg3 : arg3.IsWhole) (arg4 : Memref sig .tc .vmem S4096x1024 .f32) (harg4 : arg4.IsWhole) (arg5 : Memref sig .tc .vmem S8x128 .f32) (harg5 : arg5.IsWhole) (arg6 : Memref sig .tc .vmem S4096x1024 .bf16) (harg6 : arg6.IsWhole) (arg7 : Memref sig .tc .vmem S1x128 .f32) (harg7 : arg7.IsWhole) (hc0 : ¬cond0_0 i) (hc1 : ¬cond0_1 i)
    (x0 : Vec F S1x4096 .i32) (x1 : Vec F S4096x1 .i32) (x2 : Vec F S128x1024 .f32) (x3 : Vec F S4096x1024 .f32)
    (y : Vec F S8x128 .f32) (oh : Vec F S4096x1024 .bf16) (a : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y ∗ owns (c : Thread nD τ) arg6 fullShare oh ∗ owns (c : Thread nD τ) arg7 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y ∗ owns (c : Thread nD τ) arg6 fullShare oh ∗ owns (c : Thread nD τ) arg7 fullShare (stepV i x0 (rowsOf i x1) x2 x3 oh a)) -∗ K ⟨⟩))
      ⊢ wp frame (wpE (defs₀ (F := F)) Variants.none c none) E (cc0__tc_body i arg1 harg1 arg2 harg2 arg3 harg3 arg4 harg4 arg5 harg5 arg6 harg6 arg7 harg7) K := by
  simp only [cc0__tc_body_eq_skeleton]; unfold cc0__tc_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f6, %hf6, H6⟩, ⟨%f7, %hf7, H7⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf6; obtain rfl := harg7.eq_unread hf7
  have e1 : (View.readAt (Elt F) arg1.view (Rect.unit (s := S1x4096) ![0, 0] S1x4096.size inb_S1x4096_S1x4096_0_0).toLoadRect (harg1.unread x0)) = x0 := (View.readAt_full _ _ _).trans (harg1.read_unread _)
  have e2 : (View.readAt (Elt F) arg2.view (Rect.unit (s := S4096x1) ![0, 0] S4096x1.size inb_S4096x1_S4096x1_0_0).toLoadRect (harg2.unread x1)) = x1 := (View.readAt_full _ _ _).trans (harg2.read_unread _)
  have e3 : (View.readAt (Elt F) arg3.view (Rect.unit (s := S128x1024) ![0, 0] S128x1024.size inb_S128x1024_S128x1024_0_0).toLoadRect (harg3.unread x2)) = x2 := (View.readAt_full _ _ _).trans (harg3.read_unread _)
  have e4 : (View.readAt (Elt F) arg4.view (Rect.unit (s := S4096x1024) ![0, 0] S4096x1024.size inb_S4096x1024_S4096x1024_0_0).toLoadRect (harg4.unread x3)) = x3 := (View.readAt_full _ _ _).trans (harg4.read_unread _)
  have eR : (View.readAt (Elt F) arg2.view (Rect.unit (s := S4096x1) (k0_off1 i) S128x1.size (k0_off1_inb i)).toLoadRect (harg2.unread x1)) = rowsOf i x1 :=
    congrArg (fun X => View.ld X (Rect.unit (s := S4096x1) (k0_off1 i) S128x1.size (k0_off1_inb i))) (harg2.read_unread x1)
  have eO : (View.readAt (Elt F) arg6.view (Rect.unit (s := S4096x1024) ![0, 0] S4096x1024.size inb_S4096x1024_S4096x1024_0_0).toLoadRect (harg6.unread oh)) = oh := (View.readAt_full _ _ _).trans (harg6.read_unread _)
  have eA : (View.readAt (Elt F) arg7.view (Rect.unit (s := S1x128) ![0, 0] S1x128.size inb_S1x128_S1x128_0_0).toLoadRect (harg7.unread a)) = a := (View.readAt_full _ _ _).trans (harg7.read_unread _)
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H6]
  · iexists _; isplitr; · ipureintro; exact harg6.read_unread _
    iexact H6
  iexists _; isplitr
  swap; · iexact H7
  · ipureintro
    refine (View.read_writes_full _ _ _ _ _).trans ?_
    sl_unfold_words
    exact congrArg k0_pay1 (chain_eq _ _ _ _ _ _ _ _ _ _ _ rfl _ rfl _ rfl)

end Cert.KernelIdeal.Hand

end
-- ==== Proof.KernelIdeal.RunC.lean ====
/-
The kernel's body run at the last grid point.
-/
module

public import proofs.«01_k».proof.Proof.KernelIdeal.Values

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body at the last grid point: the one-hot table is kept, the totals gain the block's own, and the output
    block holds the best of the twenty means. -/
theorem runC (c : Dev nD) (i : grid0.Coords) (arg1 : Memref sig .tc .vmem S1x4096 .i32) (harg1 : arg1.IsWhole) (arg2 : Memref sig .tc .vmem S4096x1 .i32) (harg2 : arg2.IsWhole) (arg3 : Memref sig .tc .vmem S128x1024 .f32) (harg3 : arg3.IsWhole) (arg4 : Memref sig .tc .vmem S4096x1024 .f32) (harg4 : arg4.IsWhole) (arg5 : Memref sig .tc .vmem S8x128 .f32) (harg5 : arg5.IsWhole) (arg6 : Memref sig .tc .vmem S4096x1024 .bf16) (harg6 : arg6.IsWhole) (arg7 : Memref sig .tc .vmem S1x128 .f32) (harg7 : arg7.IsWhole) (hc0 : ¬cond0_0 i) (hc1 : cond0_1 i)
    (x0 : Vec F S1x4096 .i32) (x1 : Vec F S4096x1 .i32) (x2 : Vec F S128x1024 .f32) (x3 : Vec F S4096x1024 .f32)
    (y : Vec F S8x128 .f32) (oh : Vec F S4096x1024 .bf16) (a : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y ∗ owns (c : Thread nD τ) arg6 fullShare oh ∗ owns (c : Thread nD τ) arg7 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (lastV (stepV i x0 (rowsOf i x1) x2 x3 oh a)) ∗ owns (c : Thread nD τ) arg6 fullShare oh ∗ owns (c : Thread nD τ) arg7 fullShare (stepV i x0 (rowsOf i x1) x2 x3 oh a)) -∗ K ⟨⟩))
      ⊢ wp frame (wpE (defs₀ (F := F)) Variants.none c none) E (cc0__tc_body i arg1 harg1 arg2 harg2 arg3 harg3 arg4 harg4 arg5 harg5 arg6 harg6 arg7 harg7) K := by
  simp only [cc0__tc_body_eq_skeleton]; unfold cc0__tc_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f6, %hf6, H6⟩, ⟨%f7, %hf7, H7⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf6; obtain rfl := harg7.eq_unread hf7
  have e1 : (View.readAt (Elt F) arg1.view (Rect.unit (s := S1x4096) ![0, 0] S1x4096.size inb_S1x4096_S1x4096_0_0).toLoadRect (harg1.unread x0)) = x0 := (View.readAt_full _ _ _).trans (harg1.read_unread _)
  have e2 : (View.readAt (Elt F) arg2.view (Rect.unit (s := S4096x1) ![0, 0] S4096x1.size inb_S4096x1_S4096x1_0_0).toLoadRect (harg2.unread x1)) = x1 := (View.readAt_full _ _ _).trans (harg2.read_unread _)
  have e3 : (View.readAt (Elt F) arg3.view (Rect.unit (s := S128x1024) ![0, 0] S128x1024.size inb_S128x1024_S128x1024_0_0).toLoadRect (harg3.unread x2)) = x2 := (View.readAt_full _ _ _).trans (harg3.read_unread _)
  have e4 : (View.readAt (Elt F) arg4.view (Rect.unit (s := S4096x1024) ![0, 0] S4096x1024.size inb_S4096x1024_S4096x1024_0_0).toLoadRect (harg4.unread x3)) = x3 := (View.readAt_full _ _ _).trans (harg4.read_unread _)
  have eR : (View.readAt (Elt F) arg2.view (Rect.unit (s := S4096x1) (k0_off1 i) S128x1.size (k0_off1_inb i)).toLoadRect (harg2.unread x1)) = rowsOf i x1 :=
    congrArg (fun X => View.ld X (Rect.unit (s := S4096x1) (k0_off1 i) S128x1.size (k0_off1_inb i))) (harg2.read_unread x1)
  have eO : (View.readAt (Elt F) arg6.view (Rect.unit (s := S4096x1024) ![0, 0] S4096x1024.size inb_S4096x1024_S4096x1024_0_0).toLoadRect (harg6.unread oh)) = oh := (View.readAt_full _ _ _).trans (harg6.read_unread _)
  have eA : (View.readAt (Elt F) arg7.view (Rect.unit (s := S1x128) ![0, 0] S1x128.size inb_S1x128_S1x128_0_0).toLoadRect (harg7.unread a)) = a := (View.readAt_full _ _ _).trans (harg7.read_unread _)
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    refine (View.read_writes_full _ _ _ _ _).trans ?_
    refine congrArg lastV ?_
    refine (View.readCov_full _ _ _ _ _).trans ?_
    sl_unfold_words
    exact congrArg k0_pay1 (chain_eq _ _ _ _ _ _ _ _ _ _ _ rfl _ rfl _ rfl)
  isplitl [H6]
  · iexists _; isplitr; · ipureintro; exact harg6.read_unread _
    iexact H6
  iexists _; isplitr
  swap; · iexact H7
  · ipureintro
    refine (View.read_writes_full _ _ _ _ _).trans ?_
    sl_unfold_words
    exact congrArg k0_pay1 (chain_eq _ _ _ _ _ _ _ _ _ _ _ rfl _ rfl _ rfl)

end Cert.KernelIdeal.Hand

end
-- ==== Proof.KernelIdeal.Frame.lean ====
/-
The launch: what the scratch buffers and the output block hold after every grid point, the body's
obligation at every point, the run of the whole program, and the frame.
-/
module

public import proofs.«01_k».proof.Proof.KernelIdeal.RunA
public import proofs.«01_k».proof.Proof.KernelIdeal.RunB
public import proofs.«01_k».proof.Proof.KernelIdeal.RunC
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid has a first point. -/
theorem N_pos : 0 < cfg0.N := lt_of_lt_of_eq (by decide) (show 32 = cfg0.N from N_0.symm)

/-- The one-hot table the first point writes. -/
def ohAt (c : Dev nD) : Vec F S4096x1024 .bf16 := k0_pay3 (iblk m c 1 ⟨0, N_pos⟩)

/-- The totals after the point at position `n`. -/
def accAt (c : Dev nD) : (n : ℕ) → n < cfg0.N → Vec F S1x128 .f32
  | 0, hn => stepV (grid0.coords ⟨0, hn⟩) (iblk m c 0 ⟨0, hn⟩) (rowsOf (grid0.coords ⟨0, hn⟩) (iblk m c 1 ⟨0, hn⟩)) (iblk m c 2 ⟨0, hn⟩) (iblk m c 3 ⟨0, hn⟩) (ohAt m c) (fun _ => Scalar.ofBits .f32 0x00000000#32)
  | n + 1, hn => stepV (grid0.coords ⟨n + 1, hn⟩) (iblk m c 0 ⟨n + 1, hn⟩) (rowsOf (grid0.coords ⟨n + 1, hn⟩) (iblk m c 1 ⟨n + 1, hn⟩)) (iblk m c 2 ⟨n + 1, hn⟩) (iblk m c 3 ⟨n + 1, hn⟩) (ohAt m c) (accAt c n (Nat.lt_of_succ_lt hn))

/-- The totals after a point that is not the first, from those the point before left. -/
theorem accAt_pos (c : Dev nD) (t : Fin cfg0.N) (h : t.val ≠ 0) :
    accAt m c t.val t.isLt = stepV (grid0.coords t) (iblk m c 0 t) (rowsOf (grid0.coords t) (iblk m c 1 t)) (iblk m c 2 t) (iblk m c 3 t) (ohAt m c)
      (accAt m c (t.val - 1) (Nat.lt_of_le_of_lt (Nat.sub_le _ _) t.isLt)) := by
  obtain ⟨n, hn⟩ := t
  cases n with
  | zero => exact absurd rfl h
  | succ n => rfl

/-- The totals after the first point, whatever the totals scratch held before it. -/
theorem accAt_first (c : Dev nD) (t : Fin cfg0.N) (h : t.val = 0) (hc : cond0_0 (grid0.coords t)) (a : Vec F S1x128 .f32) :
    stepV (grid0.coords t) (iblk m c 0 t) (rowsOf (grid0.coords t) (iblk m c 1 t)) (iblk m c 2 t) (iblk m c 3 t) (k0_pay3 (iblk m c 1 t)) a = accAt m c t.val t.isLt := by
  obtain ⟨n, hn⟩ := t
  cases n with
  | zero => exact (stepV_first _ hc _ _ _ _ _ a).trans (stepV_first _ hc _ _ _ _ _ _).symm
  | succ n => exact absurd h (Nat.succ_ne_zero n)

/-- The region's invariant before position `n`: before the first point the scratch buffers hold
    anything; afterwards the one-hot table and the totals so far. -/
def PhiS (c : Dev nD) : (n : ℕ) → n ≤ cfg0.N → sProp 𝕄
  | 0, _ => Pipeline.ΦA spec0 c
  | n + 1, hn => iprop(iprop(owns (c : Thread nD τ) scM0_0 fullShare (ohAt m c) ∗ owns (c : Thread nD τ) scM0_1 fullShare (accAt m c n hn)) ∗ (∃ r, prngReg c r))

/-- The invariant before the first point. -/
theorem PhiS_zero (c : Dev nD) (n : ℕ) (h : n ≤ cfg0.N) (hz : n = 0) : PhiS m c n h = Pipeline.ΦA spec0 c := by
  subst hz; rfl

/-- After point `n`: the table and the totals at that point. -/
theorem PhiS_succ (c : Dev nD) (n : ℕ) (hn : n < cfg0.N) :
    PhiS m c (n + 1) hn = iprop(iprop(owns (c : Thread nD τ) scM0_0 fullShare (ohAt m c) ∗ owns (c : Thread nD τ) scM0_1 fullShare (accAt m c n hn)) ∗ (∃ r, prngReg c r)) := rfl

/-- Before a point that is not the first: the table and the totals the point before left. -/
theorem PhiS_pos (c : Dev nD) (n : ℕ) (h : n ≤ cfg0.N) (hz : n ≠ 0) :
    PhiS m c n h = iprop(iprop(owns (c : Thread nD τ) scM0_0 fullShare (ohAt m c) ∗ owns (c : Thread nD τ) scM0_1 fullShare (accAt m c (n - 1) (by omega))) ∗ (∃ r, prngReg c r)) := by
  cases n with
  | zero => exact absurd rfl hz
  | succ n => rfl

/-- The proof data: each input's buffer keeps its block, the output's holds the block made from the
    totals at that point, the invariant is `PhiS`, and nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => lastV (accAt m c t.val t.isLt)
  Φ t := PhiS m c t.val (Nat.le_of_lt_succ t.isLt)
  q w := Pipeline.shareOf spec0 w
  owed _ := 0

/-- The proof data's arrays are the contents at the region's entry. -/
theorem A_eq (c : Dev nD) (w : Fin cfg0.W) : (dats m 0 c).A w = V m c (Pipeline.arrRef spec0 w) := by
  dsimp only [dats]

/-- The invariant at a point, from its number. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- Window 0 after a point. -/
theorem after0_0 (c : Dev nD) (t : Fin cfg0.N) : (dats m 0 c).after 0 t = iblk m c 0 t := by dsimp only [dats]
/-- Window 0 holds its block before a point. -/
theorem before0_0 (c : Dev nD) (t : Fin cfg0.N) (d) : (dats m 0 c).before 0 t d = iblk m c 0 t :=
  before0_0_of m (dats m 0 c) (A_eq m c 0) (after0_0 m c) t d
/-- What the body must leave in window 0. -/
theorem leaves0_0 (c : Dev nD) (t : Fin cfg0.N) :
    (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
/-- Window 1 after a point. -/
theorem after0_1 (c : Dev nD) (t : Fin cfg0.N) : (dats m 0 c).after 1 t = iblk m c 1 t := by dsimp only [dats]
/-- Window 1 holds its block before a point. -/
theorem before0_1 (c : Dev nD) (t : Fin cfg0.N) (d) : (dats m 0 c).before 1 t d = iblk m c 1 t :=
  before0_1_of m (dats m 0 c) (A_eq m c 1) (after0_1 m c) t d
/-- What the body must leave in window 1. -/
theorem leaves0_1 (c : Dev nD) (t : Fin cfg0.N) :
    (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
/-- Window 2 after a point. -/
theorem after0_2 (c : Dev nD) (t : Fin cfg0.N) : (dats m 0 c).after 2 t = iblk m c 2 t := by dsimp only [dats]
/-- Window 2 holds its block before a point. -/
theorem before0_2 (c : Dev nD) (t : Fin cfg0.N) (d) : (dats m 0 c).before 2 t d = iblk m c 2 t :=
  before0_2_of m (dats m 0 c) (A_eq m c 2) (after0_2 m c) t d
/-- What the body must leave in window 2. -/
theorem leaves0_2 (c : Dev nD) (t : Fin cfg0.N) :
    (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
/-- Window 3 after a point. -/
theorem after0_3 (c : Dev nD) (t : Fin cfg0.N) : (dats m 0 c).after 3 t = iblk m c 3 t := by dsimp only [dats]
/-- Window 3 holds its block before a point. -/
theorem before0_3 (c : Dev nD) (t : Fin cfg0.N) (d) : (dats m 0 c).before 3 t d = iblk m c 3 t :=
  before0_3_of m (dats m 0 c) (A_eq m c 3) (after0_3 m c) t d
/-- What the body must leave in window 3. -/
theorem leaves0_3 (c : Dev nD) (t : Fin cfg0.N) :
    (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]
/-- Window 4 after a point. -/
theorem after0_4 (c : Dev nD) (t : Fin cfg0.N) : (dats m 0 c).after 4 t = lastV (accAt m c t.val t.isLt) := by dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the first, a middle or the last point's run, handed the invariant's
    contents and giving the next ones back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, leaves0_0, leaves0_1, leaves0_2, leaves0_3]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases hz : t.val = 0
  · have hc0 : cond0_0 (grid0.coords t) := (hcond0_0 t).mpr (by omega)
    have hc1 : ¬cond0_1 (grid0.coords t) := fun h => by have := (hcond0_1 t).mp h; omega
    rw [Dat.leavesExact_idle (dats m 0 c) 4 t (idleAt0_4_A t hc0 hc1) (noFlush0_4_A t hc0 hc1)]
    rw [PhiS_castSucc m c t, PhiS_zero m c _ _ hz, PhiA0_eq]
    iintro ⟨⟨⟨HS0, ⟨%a, HS1⟩⟩, Hg⟩, Ho, ⟨%d0, H0⟩, ⟨%d1, H1⟩, ⟨%d2, H2⟩, ⟨%d3, H3⟩, ⟨%d4, H4⟩⟩
    rw [← accAt_first m c t hz hc0 a]
    have hoh : ohAt m c = k0_pay3 (iblk m c 1 t) := by
      unfold ohAt; rw [show t = ⟨0, N_pos⟩ from Fin.ext hz]
    rw [hoh]
    iapply (runA c (grid0.coords t) _ _ _ _ _ _ _ _ _ _ _ _ _ _ hc0 hc1 (iblk m c 0 t) (iblk m c 1 t) (iblk m c 2 t) (iblk m c 3 t) _ a Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    iexists _; iexact H4
  · have hc0 : ¬cond0_0 (grid0.coords t) := fun h => by have := (hcond0_0 t).mp h; omega
    by_cases h1 : t.val % 32 = 31
    · have hc1 : cond0_1 (grid0.coords t) := (hcond0_1 t).mpr h1
      rw [show (dats m 0 c).leavesExact 4 t = owns (c : Thread nD τ) (ms0_4 t) fullShare ((dats m 0 c).after 4 t) from by
        unfold Dat.leavesExact; rw [liveAt0_4_C t hc0 hc1], after0_4]
      rw [PhiS_castSucc m c t, PhiS_pos m c _ _ hz, accAt_pos m c t hz]
      iintro ⟨⟨⟨HS0, HS1⟩, Hg⟩, Ho, ⟨%d0, H0⟩, ⟨%d1, H1⟩, ⟨%d2, H2⟩, ⟨%d3, H3⟩, ⟨%d4, H4⟩⟩
      iapply (runC c (grid0.coords t) _ _ _ _ _ _ _ _ _ _ _ _ _ _ hc0 hc1 (iblk m c 0 t) (iblk m c 1 t) (iblk m c 2 t) (iblk m c 3 t) _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      iexact H4
    · have hc1 : ¬cond0_1 (grid0.coords t) := fun h => h1 ((hcond0_1 t).mp h)
      rw [Dat.leavesExact_idle (dats m 0 c) 4 t (idleAt0_4_B t hc0 hc1) (noFlush0_4_B t hc0 hc1)]
      rw [PhiS_castSucc m c t, PhiS_pos m c _ _ hz, accAt_pos m c t hz]
      iintro ⟨⟨⟨HS0, HS1⟩, Hg⟩, Ho, ⟨%d0, H0⟩, ⟨%d1, H1⟩, ⟨%d2, H2⟩, ⟨%d3, H3⟩, ⟨%d4, H4⟩⟩
      iapply (runB c (grid0.coords t) _ _ _ _ _ _ _ _ _ _ _ _ _ _ hc0 hc1 (iblk m c 0 t) (iblk m c 1 t) (iblk m c 2 t) (iblk m c 3 t) _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      iexists _; iexact H4

/-- The body table's row at point `t` is the body at its staging buffers. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the scratch buffers' contents are forgotten. -/
theorem hout (c : Dev nD) : (dats m 0 c).Φ (Fin.last cfg0.N) ⊢ Pipeline.ΦA spec0 c := by
  have ht : (Fin.last cfg0.N).val ≠ 0 := by rw [Fin.val_last]; have : cfg0.N = 32 := N_0; omega
  rw [show (dats m 0 c).Φ (Fin.last cfg0.N) = PhiS m c (Fin.last cfg0.N).val (Nat.le_of_lt_succ (Fin.last cfg0.N).isLt) from rfl,
    PhiS_pos m c _ _ ht, PhiA0_eq]
  iintro ⟨⟨HS0, HS1⟩, Hg⟩
  isplitl [HS0 HS1]
  · isplitl [HS0]
    · iexists _; iexact HS0
    iexists _; iexact HS1
  iexact Hg

set_option backward.isDefEq.respectTransparency.types false in
set_option maxHeartbeats 800000 in
/-- Every execution of the program ends, with every array of the launch at what the proof data say,
    every other buffer as the host lines after the launch leave it, and every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same run without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: every execution ends with the two argument arrays unchanged and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.KernelIdeal.Read.lean ====
/-
The body's values read at one entry, over the extended reals.
-/
module

public import proofs.«01_k».proof.Proof.KernelIdeal.Values
public import Idealize.ShloMosaic.Lib.Pointwise

@[expose] public section

set_option maxRecDepth 16384

noncomputable section

namespace Cert.KernelIdeal.Hand

open Cert.KernelIdeal.Gen
open Idealize.ShloMosaic Idealize.ShloMosaic.Pointwise

variable (i : grid0.Coords) (x2 : Vec Ideal S128x1024 .f32) (x3 : Vec Ideal S4096x1024 .f32)
  (x0 : Vec Ideal S1x4096 .i32) (x1 : Vec Ideal S4096x1 .i32) (rr : Vec Ideal S128x1 .i32)

/-- The label row is used as it is. -/
theorem read4 (k : S1x4096.Idx) : k0_pay4 x0 k = x0 k := by
  obtain ⟨a, b, rfl⟩ : ∃ a b, k = ix2 a b := ⟨_, _, eq_ix2 k⟩
  pointwise [k0_pay4]

/-- The label column is used as it is. -/
theorem read5 (r : Fin 128) : k0_pay5 rr (ix2 r 0) = rr (ix2 r 0) := by
  pointwise [k0_pay5]

/-- The masked score of one row and one entry. -/
theorem read6 (r : Fin 128) (j : Fin 4096) :
    k0_pay6 i x2 x3 (ix2 r j) = Scalar.select (IntOp.cmpi .eq (BitVec.ofNat 32 j.val) (IntOp.addi (BitVec.ofNat 32 r.val) (Scalar.muli (BitVec.ofNat 32 (i 0).val) 128#32)))
      (Ideal.ofBits .f32 0xC47A0000#32) (∑ x : Fin 1024, x2 (ix2 r x) * x3 (ix2 j x)) := by
  pointwise [k0_pay6]

/-- The best score among a row's own label. -/
theorem read9 (r : Fin 128) :
    k0_pay9 i x2 x3 x0 rr (ix2 r 0) = Finset.fold max (Ideal.ofBits .f32 0xFF800000#32)
      (fun x : Fin 4096 => Scalar.select (IntOp.cmpi .eq (x0 (ix2 0 x)) (rr (ix2 r 0))) (k0_pay6 i x2 x3 (ix2 r x)) (Ideal.ofBits .f32 0xF149F2CA#32)) Finset.univ := by
  pointwise [k0_pay9, k0_pay7, k0_pay4]
  simp only [read5]

/-- The best score among label zero. -/
theorem read10 (r : Fin 128) :
    k0_pay10 i x2 x3 x0 (ix2 r 0) = Finset.fold max (Ideal.ofBits .f32 0xFF800000#32)
      (fun x : Fin 4096 => Scalar.select (IntOp.cmpi .eq (x0 (ix2 0 x)) 0#32) (k0_pay6 i x2 x3 (ix2 r x)) (Ideal.ofBits .f32 0xF149F2CA#32)) Finset.univ := by
  pointwise [k0_pay10, k0_pay8, k0_pay4]

/-- Whether an entry has label zero. -/
theorem read8 (x : Fin 4096) : k0_pay8 x0 (ix2 0 x) = IntOp.cmpi .eq (x0 (ix2 0 x)) 0#32 := by
  pointwise [k0_pay8, k0_pay4]

/-- Whether an entry attains the best score of the row's own label. -/
theorem read11 (r : Fin 128) (j : Fin 4096) :
    k0_pay11 i x2 x3 x0 rr (ix2 r j) = IntOp.andi (IntOp.cmpi .eq (x0 (ix2 0 j)) (rr (ix2 r 0)))
      (BitVec.ofBool (decide (k0_pay6 i x2 x3 (ix2 r j) = k0_pay9 i x2 x3 x0 rr (ix2 r 0)))) := by
  pointwise [k0_pay11, k0_pay7]
  simp only [read4, read5]

/-- The last marked entry. -/
theorem read12 (v39 : IVec S128x4096 1) (r : Fin 128) :
    k0_pay12 laneN v39 (ix2 r 0) = Finset.fold IntOp.maxsi 2147483648#32
      (fun x : Fin 4096 => Scalar.select (v39 (ix2 r x)) (BitVec.ofNat 32 x.val) 4294967295#32) Finset.univ := by
  pointwise [k0_pay12, laneN]

/-- The number of labels with an entry ahead of the row's own. -/
theorem read13 (v21 : FVec Ideal S128x4096 .f32) (v30 : FVec Ideal S128x1 .f32) (v39 : IVec S128x4096 1) (v68 : Vec Ideal S4096x1024 .bf16) (r : Fin 128) :
    k0_pay13 laneN v21 v30 v39 v68 (ix2 r 0) = Finset.fold IntOp.addi 0#32 (fun x : Fin 1024 =>
      BitVec.setWidth 32 (BitVec.ofBool (decide (Ideal.ofBits .f32 0x3F000000#32 ≤ ∑ j : Fin 4096,
        FloatOps.sitofp (F := Ideal) .f32 (BitVec.setWidth 32 (IntOp.ori (BitVec.ofBool (decide (v30 (ix2 r 0) < v21 (ix2 r j))))
          (IntOp.andi (BitVec.ofBool (decide (v21 (ix2 r j) = v30 (ix2 r 0)))) (IntOp.cmpi .sgt (BitVec.ofNat 32 j.val) (k0_pay12 laneN v39 (ix2 r 0)))))) * v68 (ix2 j x))))) Finset.univ := by
  pointwise [k0_pay13, laneN]

/-- Whether label zero's best entry comes after the row's own label's. -/
theorem read14 (v21 : FVec Ideal S128x4096 .f32) (v26 : IVec S1x4096 1) (v30 v36 : FVec Ideal S128x1 .f32) (v39 : IVec S128x4096 1) (r : Fin 128) :
    k0_pay14 laneN v21 v26 v30 v36 v39 (ix2 r 0) = IntOp.ori (BitVec.ofBool (decide (v36 (ix2 r 0) < v30 (ix2 r 0))))
      (IntOp.andi (BitVec.ofBool (decide (v36 (ix2 r 0) = v30 (ix2 r 0))))
        (IntOp.cmpi .slt (Finset.fold IntOp.maxsi 2147483648#32 (fun x : Fin 4096 =>
          Scalar.select (IntOp.andi (v26 (ix2 0 x)) (BitVec.ofBool (decide (v21 (ix2 r x) = v36 (ix2 r 0))))) (BitVec.ofNat 32 x.val) 4294967295#32) Finset.univ)
          (k0_pay12 laneN v39 (ix2 r 0)))) := by
  pointwise [k0_pay14, laneN]

/-- The one-hot table's entry. -/
theorem read3 (j : Fin 4096) (l : Fin 1024) :
    (k0_pay3 x1 : Vec Ideal S4096x1024 .bf16) (ix2 j l) = FloatOps.sitofp (F := Ideal) .f32 (BitVec.setWidth 32 (IntOp.cmpi .eq (x1 (ix2 j 0)) (BitVec.ofNat 32 l.val))) := by
  pointwise [k0_pay3]

/-- One row's precision at one threshold. -/
theorem readApk (tb : BitVec 32) (lab : IVec S128x1 32) (sL : FVec Ideal S128x1 .f32) (q : IVec S128x1 32) (zlt : IVec S128x1 1) (r : Fin 128) :
    apkV tb lab sL q zlt (ix2 r 0) = Scalar.select (IntOp.ori (IntOp.cmpi .eq (lab (ix2 r 0)) 0#32)
      (IntOp.cmpi .sge (IntOp.addi (q (ix2 r 0)) (BitVec.setWidth 32 (IntOp.andi (BitVec.ofBool (decide (sL (ix2 r 0) < Ideal.ofBits .f32 tb))) (zlt (ix2 r 0))))) 5#32)) 0
      (Ideal.div 1 (FloatOps.sitofp (F := Ideal) .f32 (IntOp.addi (q (ix2 r 0)) (BitVec.setWidth 32 (IntOp.andi (BitVec.ofBool (decide (sL (ix2 r 0) < Ideal.ofBits .f32 tb))) (zlt (ix2 r 0))))) + 1)) := by
  pointwise [apkV]

/-- One threshold's contribution to one lane. -/
theorem readLane (p : BitVec 32 × BitVec 32) (lab : IVec S128x1 32) (sL : FVec Ideal S128x1 .f32) (q : IVec S128x1 32) (zlt : IVec S128x1 1) (l : Fin 128) :
    laneV p lab sL q zlt (ix2 0 l) = Scalar.select (IntOp.cmpi .eq (BitVec.ofNat 32 l.val) p.1) (∑ r : Fin 128, apkV p.2 lab sL q zlt (ix2 r 0)) 0 := by
  pointwise [laneV]
  simp only [Finset.univ_unique, Finset.sum_singleton]

/-- The block written last: the largest of the first twenty lanes divided by the number of rows. -/
theorem readLast (a : Vec Ideal S1x128 .f32) :
    lastV a (ix2 0 0) = Finset.fold max (Ideal.ofBits .f32 0xFF800000#32)
      (fun x : Fin 1 × Fin 128 => Scalar.select (IntOp.cmpi .slt (BitVec.ofNat 32 x.2.val) 20#32) (Ideal.div (a (ix2 0 x.2)) (Ideal.ofBits .f32 0x45800000#32)) (Ideal.ofBits .f32 0xF149F2CA#32)) Finset.univ := by
  pointwise [lastV, k0_pay2]

end Cert.KernelIdeal.Hand

end
-- ==== Proof.Row.lean ====
module

public import Idealize.ShloMosaic.PureOps.Ideal
public import Mathlib.Data.Finset.Card
public import Mathlib.Data.Fintype.Card

@[expose] public section

/-! One row of the ranking. `s` gives the scores of the row's entries and `lab` their labels. Entries are ranked by
score, highest first, and among equal scores by position, highest first. -/

namespace Cert.Row

variable {N : ℕ} {α : Type} [LinearOrder α]

/-- Entry `j` is ranked ahead of entry `k`. -/
def Before (s : Fin N → α) (j k : Fin N) : Prop := s k < s j ∨ (s j = s k ∧ k < j)

/-- Entry `j` is ranked ahead of every entry labelled `L`. -/
def Ahead (s : Fin N → α) (lab : Fin N → ℕ) (L : ℕ) (j : Fin N) : Prop := ∀ k, lab k = L → Before s j k

open Classical in
/-- How many different labels occur ahead of every entry labelled `L`. -/
noncomputable def rowQ (s : Fin N → α) (lab : Fin N → ℕ) (L : ℕ) : ℕ :=
  ((Finset.univ.filter (Ahead s lab L)).image lab).card

/-- Every entry labelled zero has an entry labelled `L` ahead of it. -/
def ZeroLater (s : Fin N → α) (lab : Fin N → ℕ) (L : ℕ) : Prop := ∀ j, lab j = 0 → ∃ k, lab k = L ∧ Before s k j

/-- Every entry labelled `L` scores below `t`. -/
def Low (s : Fin N → α) (lab : Fin N → ℕ) (L : ℕ) (t : α) : Prop := ∀ j, lab j = L → s j < t

/-- No entry is ranked ahead of itself. -/
theorem Before.irrefl (s : Fin N → α) (j : Fin N) : ¬ Before s j j := by
  rintro (h | h)
  · exact lt_irrefl _ h
  · exact lt_irrefl _ h.2

/-- Being ranked ahead is transitive. -/
theorem Before.trans {s : Fin N → α} {i j k : Fin N} (h : Before s i j) (g : Before s j k) : Before s i k := by
  rcases h with h | h <;> rcases g with g | g
  · exact Or.inl (g.trans h)
  · exact Or.inl (g.1 ▸ h)
  · exact Or.inl (h.1 ▸ g)
  · exact Or.inr ⟨h.1.trans g.1, g.2.trans h.2⟩

/-- Of two different entries one is ranked ahead of the other. -/
theorem Before.total (s : Fin N → α) {j k : Fin N} (h : j ≠ k) : Before s j k ∨ Before s k j := by
  rcases lt_trichotomy (s j) (s k) with g | g | g
  · exact Or.inr (Or.inl g)
  · rcases lt_or_gt_of_ne h with l | l
    · exact Or.inr (Or.inr ⟨g.symm, l⟩)
    · exact Or.inl (Or.inr ⟨g, l⟩)
  · exact Or.inl (Or.inl g)

/-- An entry ranked ahead scores no less. -/
theorem Before.le {s : Fin N → α} {j k : Fin N} (h : Before s j k) : s k ≤ s j := by
  rcases h with h | h
  · exact h.le
  · exact h.1.ge

/-! ## The row by maxima -/

section Maxima
variable {s : Fin N → α} {lab : Fin N → ℕ} {L : ℕ}

/-- `b` is the first-ranked of the entries labelled `L`: it has the highest score of them, and the highest position
    among those of that score. -/
structure First (s : Fin N → α) (lab : Fin N → ℕ) (L : ℕ) (b : Fin N) : Prop where
  lab_eq : lab b = L
  top : ∀ j, lab j = L → s j ≤ s b
  last : ∀ j, lab j = L → s j = s b → j ≤ b

/-- To be ahead of every entry of a label is to be ahead of the first of them. -/
theorem First.ahead_iff {b : Fin N} (hb : First s lab L b) (j : Fin N) : Ahead s lab L j ↔ Before s j b := by
  refine ⟨fun h => h b hb.lab_eq, fun h k hk => ?_⟩
  by_cases e : k = b
  · exact e ▸ h
  · refine h.trans ?_
    rcases (hb.top k hk).lt_or_eq with g | g
    · exact Or.inl g
    · exact Or.inr ⟨g.symm, lt_of_le_of_ne (hb.last k hk g) e⟩

/-- The first entry of a label is ahead of the others. -/
theorem First.before_of_ne {b : Fin N} (hb : First s lab L b) {k : Fin N} (hk : lab k = L) (e : k ≠ b) : Before s b k := by
  rcases (hb.top k hk).lt_or_eq with g | g
  · exact Or.inl g
  · exact Or.inr ⟨g.symm, lt_of_le_of_ne (hb.last k hk g) e⟩

/-- A label scores below `t` exactly when its first entry does. -/
theorem First.low_iff {b : Fin N} (hb : First s lab L b) (t : α) : Low s lab L t ↔ s b < t :=
  ⟨fun h => h b hb.lab_eq, fun h j hj => (hb.top j hj).trans_lt h⟩

/-- With a first zero entry too, the zeros come later exactly when the first of them does. -/
theorem First.zeroLater_iff {b z : Fin N} (hb : First s lab L b) (hz : First s lab 0 z) :
    ZeroLater s lab L ↔ Before s b z := by
  constructor
  · intro h
    obtain ⟨k, hk, hkz⟩ := h z hz.lab_eq
    by_cases e : k = b
    · exact e ▸ hkz
    · exact (hb.before_of_ne hk e).trans hkz
  · intro h j hj
    refine ⟨b, hb.lab_eq, ?_⟩
    by_cases e : j = z
    · exact e ▸ h
    · exact h.trans (hz.before_of_ne hj e)

/-- A label that occurs has a first entry. -/
theorem exists_first (h : ∃ j, lab j = L) : ∃ b, First s lab L b := by
  classical
  obtain ⟨j0, h0⟩ := h
  obtain ⟨m, hm, hmax⟩ := Finset.exists_max_image (Finset.univ.filter fun j => lab j = L) s ⟨j0, by simpa using h0⟩
  obtain ⟨b, hb, hbm⟩ := Finset.exists_max_image (Finset.univ.filter fun j => lab j = L ∧ s j = s m) id
    ⟨m, by simpa using hm⟩
  simp only [Finset.mem_filter, Finset.mem_univ, true_and] at hm hmax hb hbm
  exact ⟨b, hb.1, fun j hj => hb.2 ▸ hmax j hj, fun j hj e => hbm j ⟨hj, e.trans hb.2⟩⟩

end Maxima

/-! ## The row by its ranking -/

section Ranked
variable {s : Fin N → α} {lab : Fin N → ℕ}

/-- `σ` lists the entries in ranking order. -/
structure Ranks (s : Fin N → α) (σ : Fin N → Fin N) : Prop where
  bij : Function.Bijective σ
  mono : ∀ p p', p < p' → Before s (σ p) (σ p')

/-- In ranking order, ahead means at an earlier place. -/
theorem Ranks.before_iff {σ : Fin N → Fin N} (h : Ranks s σ) (p p' : Fin N) : Before s (σ p) (σ p') ↔ p < p' := by
  refine ⟨fun g => ?_, h.mono p p'⟩
  rcases lt_trichotomy p p' with l | l | l
  · exact l
  · exact absurd (l ▸ g) (Before.irrefl s _)
  · exact absurd (g.trans (h.mono _ _ l)) (Before.irrefl s _)

/-- `fp` gives the first place of each label in the ranking, and `big` for a label that does not occur. -/
structure Places (lab : Fin N → ℕ) (σ : Fin N → Fin N) (big : ℕ) (fp : ℕ → ℕ) : Prop where
  here : ∀ j, ∃ p : Fin N, fp (lab j) = p.val ∧ lab (σ p) = lab j
  least : ∀ p, fp (lab (σ p)) ≤ p.val
  absent : ∀ c, (∀ j, lab j ≠ c) → fp c = big

/-- Place `p` is the first of its label. -/
def Kept (lab : Fin N → ℕ) (σ : Fin N → Fin N) (fp : ℕ → ℕ) (p : Fin N) : Prop := fp (lab (σ p)) = p.val

instance (lab : Fin N → ℕ) (σ : Fin N → Fin N) (fp : ℕ → ℕ) (p : Fin N) : Decidable (Kept lab σ fp p) := by
  unfold Kept; infer_instance

/-- How many places below `x` are first of their label. -/
def keptBelow (lab : Fin N → ℕ) (σ : Fin N → Fin N) (fp : ℕ → ℕ) (x : ℕ) : ℕ :=
  (Finset.univ.filter fun p : Fin N => p.val < x ∧ Kept lab σ fp p).card

variable {σ : Fin N → Fin N} {fp : ℕ → ℕ} {big : ℕ}

/-- The kept count does not fall. -/
theorem keptBelow_mono {x y : ℕ} (h : x ≤ y) : keptBelow lab σ fp x ≤ keptBelow lab σ fp y := by
  refine Finset.card_le_card fun p hp => ?_
  simp only [Finset.mem_filter, Finset.mem_univ, true_and] at hp ⊢
  exact ⟨hp.1.trans_le h, hp.2⟩

/-- A kept place between two counts makes them differ. -/
theorem keptBelow_lt {x y : ℕ} (p : Fin N) (hp : Kept lab σ fp p) (hx : x ≤ p.val) (hy : p.val < y) :
    keptBelow lab σ fp x < keptBelow lab σ fp y := by
  refine Finset.card_lt_card (Finset.ssubset_iff_of_subset ?_ |>.mpr ⟨p, ?_, ?_⟩)
  · intro q hq
    simp only [Finset.mem_filter, Finset.mem_univ, true_and] at hq ⊢
    exact ⟨by omega, hq.2⟩
  · simp only [Finset.mem_filter, Finset.mem_univ, true_and]; exact ⟨hy, hp⟩
  · simp only [Finset.mem_filter, Finset.mem_univ, true_and]; omega

/-- A kept place raises the count by one. -/
theorem keptBelow_succ (p : Fin N) (hp : Kept lab σ fp p) :
    keptBelow lab σ fp (p.val + 1) = keptBelow lab σ fp p.val + 1 := by
  classical
  unfold keptBelow
  rw [← Finset.card_insert_of_notMem (a := p) (s := Finset.univ.filter fun q : Fin N => q.val < p.val ∧ Kept lab σ fp q)
    (by simp)]
  congr 1
  ext q
  simp only [Finset.mem_filter, Finset.mem_univ, true_and, Finset.mem_insert]
  constructor
  · rintro ⟨h, k⟩
    by_cases e : q = p
    · exact Or.inl e
    · exact Or.inr ⟨by have : q.val ≠ p.val := fun g => e (Fin.ext g); omega, k⟩
  · rintro (rfl | ⟨h, k⟩)
    · exact ⟨by omega, hp⟩
    · exact ⟨by omega, k⟩

/-- The kept count is at most the number of places. -/
theorem keptBelow_le (x : ℕ) : keptBelow lab σ fp x ≤ N := by
  refine (Finset.card_le_card (Finset.subset_univ _)).trans ?_
  simp

/-- The first place of a label that occurs. -/
theorem Places.first (hp : Places lab σ big fp) (j : Fin N) :
    ∃ p : Fin N, fp (lab j) = p.val ∧ lab (σ p) = lab j ∧ Kept lab σ fp p := by
  obtain ⟨p, h, e⟩ := hp.here j
  exact ⟨p, h, e, by unfold Kept; rw [e, h]⟩

/-- The labels kept below the first `L` are those that occur ahead of every `L`. -/
theorem keptBelow_first (hσ : Ranks s σ) (hp : Places lab σ big fp) (i : Fin N) :
    keptBelow lab σ fp (fp (lab i)) = rowQ s lab (lab i) := by
  classical
  obtain ⟨b, hb, eb, kb⟩ := hp.first i
  unfold keptBelow rowQ
  refine Finset.card_bij (fun p _ => lab (σ p)) ?_ ?_ ?_
  · intro p hpm
    simp only [Finset.mem_filter, Finset.mem_univ, true_and] at hpm
    refine Finset.mem_image.mpr ⟨σ p, ?_, rfl⟩
    simp only [Finset.mem_filter, Finset.mem_univ, true_and]
    intro k hk
    obtain ⟨p', rfl⟩ := hσ.bij.2 k
    refine hσ.mono _ _ ?_
    have := hp.least p'
    rw [hk] at this
    exact Fin.lt_def.mpr (by omega)
  · intro p hpm q hqm e
    simp only [Finset.mem_filter, Finset.mem_univ, true_and] at hpm hqm
    have h1 := hpm.2; have h2 := hqm.2
    unfold Kept at h1 h2
    exact Fin.ext (by rw [← h1, ← h2, e])
  · intro c hc
    obtain ⟨j, hj, rfl⟩ := Finset.mem_image.mp hc
    simp only [Finset.mem_filter, Finset.mem_univ, true_and] at hj
    obtain ⟨p, h1, h2, h3⟩ := hp.first j
    refine ⟨p, ?_, h2⟩
    simp only [Finset.mem_filter, Finset.mem_univ, true_and]
    refine ⟨?_, h3⟩
    obtain ⟨p', rfl⟩ := hσ.bij.2 j
    have h4 := hp.least p'
    have h5 : p' < b := (hσ.before_iff _ _).mp (hj (σ b) eb)
    have := Fin.lt_def.mp h5
    omega

open Classical in
/-- How many entries score at least `t`. -/
noncomputable def atLeast (s : Fin N → α) (t : α) : ℕ := (Finset.univ.filter fun j => t ≤ s j).card

/-- There are `x` places below `x`. -/
theorem card_lt (x : ℕ) (hx : x ≤ N) : (Finset.univ.filter fun p : Fin N => p.val < x).card = x := by
  have : (Finset.univ.filter fun p : Fin N => p.val < x) = (Finset.range x).attachFin (fun m hm => by
      have := Finset.mem_range.mp hm; omega) := by
    ext p; simp
  rw [this, Finset.card_attachFin, Finset.card_range]

/-- The entries that score at least `t` fill the first places of the ranking. -/
theorem lt_atLeast_iff (hσ : Ranks s σ) (t : α) (p : Fin N) : p.val < atLeast s t ↔ t ≤ s (σ p) := by
  classical
  have hcard : atLeast s t = (Finset.univ.filter fun p : Fin N => t ≤ s (σ p)).card := by
    unfold atLeast
    symm
    refine Finset.card_bij (fun p _ => σ p) ?_ ?_ ?_
    · intro q hq; simpa using hq
    · intro q _ q' _ e; exact hσ.bij.1 e
    · intro j hj
      obtain ⟨q, rfl⟩ := hσ.bij.2 j
      exact ⟨q, by simpa using hj, rfl⟩
  have hdown : ∀ q q' : Fin N, q ≤ q' → t ≤ s (σ q') → t ≤ s (σ q) := by
    intro q q' hq h
    rcases hq.lt_or_eq with l | rfl
    · exact h.trans (hσ.mono _ _ l).le
    · exact h
  rw [hcard]
  constructor
  · intro h
    by_contra hn
    have hsub : (Finset.univ.filter fun q : Fin N => t ≤ s (σ q)) ⊆ Finset.univ.filter fun q : Fin N => q.val < p.val := by
      intro q hq
      simp only [Finset.mem_filter, Finset.mem_univ, true_and] at hq ⊢
      by_contra hc
      exact hn (hdown p q (Fin.le_def.mpr (by omega)) hq)
    have := Finset.card_le_card hsub
    rw [card_lt _ p.isLt.le] at this
    omega
  · intro h
    have hsub : (Finset.univ.filter fun q : Fin N => q.val < p.val + 1) ⊆ Finset.univ.filter fun q : Fin N => t ≤ s (σ q) := by
      intro q hq
      simp only [Finset.mem_filter, Finset.mem_univ, true_and] at hq ⊢
      exact hdown q p (Fin.le_def.mpr (by omega)) h
    have := Finset.card_le_card hsub
    rw [card_lt _ (by omega)] at this
    omega

/-- At most all entries reach a threshold. -/
theorem atLeast_le (s : Fin N → α) (t : α) : atLeast s t ≤ N := by
  classical
  refine (Finset.card_le_card (Finset.subset_univ _)).trans ?_
  simp

/-- The labels kept above `t` are no more than those ahead of `L` exactly when `L` scores below `t`. -/
theorem keptBelow_atLeast_le_iff (hσ : Ranks s σ) (hp : Places lab σ big fp) (i : Fin N) (t : α) :
    keptBelow lab σ fp (atLeast s t) ≤ keptBelow lab σ fp (fp (lab i)) ↔ Low s lab (lab i) t := by
  obtain ⟨b, hb, eb, kb⟩ := hp.first i
  rw [hb]
  have hlow : Low s lab (lab i) t ↔ ¬ b.val < atLeast s t := by
    rw [lt_atLeast_iff hσ, not_le]
    refine ⟨fun h => h _ eb, fun h j hj => ?_⟩
    obtain ⟨p, rfl⟩ := hσ.bij.2 j
    have h1 := hp.least p
    rw [hj, hb] at h1
    rcases h1.lt_or_eq with l | l
    · exact (hσ.mono b p (Fin.lt_def.mpr l)).le.trans_lt h
    · have : b = p := Fin.ext l
      exact this ▸ h
  rw [hlow]
  constructor
  · intro h hc
    exact absurd (keptBelow_lt b kb le_rfl hc) (by omega)
  · intro h
    exact keptBelow_mono (by omega)

/-- With label zero present, the kept count ahead of `L` is below that ahead of zero exactly when the zeros come
    later. -/
theorem keptBelow_lt_zero_iff (hσ : Ranks s σ) (hp : Places lab σ big fp) (i z : Fin N) (hz : lab z = 0) :
    keptBelow lab σ fp (fp (lab i)) < keptBelow lab σ fp (fp 0) ↔ ZeroLater s lab (lab i) := by
  obtain ⟨b, hb, eb, kb⟩ := hp.first i
  obtain ⟨y, hy, ey, ky⟩ := hp.first z
  rw [hz] at hy ey
  rw [hb, hy]
  have hzl : ZeroLater s lab (lab i) ↔ b.val < y.val := by
    constructor
    · intro h
      obtain ⟨k, hk, hky⟩ := h (σ y) ey
      obtain ⟨p, rfl⟩ := hσ.bij.2 k
      have h1 := hp.least p
      rw [hk, hb] at h1
      have := Fin.lt_def.mp ((hσ.before_iff _ _).mp hky)
      omega
    · intro h j hj
      obtain ⟨p, rfl⟩ := hσ.bij.2 j
      have h1 := hp.least p
      rw [hj, hy] at h1
      exact ⟨σ b, eb, hσ.mono _ _ (Fin.lt_def.mpr (by omega))⟩
  rw [hzl]
  constructor
  · intro h
    by_contra hc
    have := keptBelow_mono (lab := lab) (σ := σ) (fp := fp) (show y.val ≤ b.val by omega)
    omega
  · intro h
    exact keptBelow_lt b kb le_rfl h

end Ranked

end Cert.Row

end
-- ==== Proof.Spec.lean ====
module

public import Idealize.ShloMosaic.Lib.IdealHost
public import Idealize.ShloMosaic.Lib.WordCmp
public import Idealize.ShloMosaic.Lib.IndicatorCount
public import proofs.«01_k».proof.Proof.Row

@[expose] public section

/-! The value both programs compute, from the labels `lab` and the features `X`. -/

noncomputable section

namespace Cert.Spec

open Idealize.ShloMosaic

/-- Row `i`'s score of entry `j`: the product of the two feature rows, and -1000 for the row's own entry. -/
def score (X : Fin 4096 → Fin 1024 → Ideal .f32) (i j : Fin 4096) : EReal :=
  if i = j then Ideal.ofBits .f32 0xC47A0000#32 else ∑ k, X i k * X j k

/-- The labels as naturals. -/
def num (lab : Fin 4096 → BitVec 32) (j : Fin 4096) : ℕ := (lab j).toNat

/-- Label zero is inserted ahead of the row's own label at threshold `t`. -/
def Extra (lab : Fin 4096 → BitVec 32) (X : Fin 4096 → Fin 1024 → Ideal .f32) (i : Fin 4096) (t : EReal) : Prop :=
  Row.Low (score X i) (num lab) (num lab i) t ∧ Row.ZeroLater (score X i) (num lab) (num lab i)

open Classical in
/-- The rank of row `i`'s own label at threshold `t`. -/
def rank (lab : Fin 4096 → BitVec 32) (X : Fin 4096 → Fin 1024 → Ideal .f32) (i : Fin 4096) (t : EReal) : BitVec 32 :=
  BitVec.ofNat 32 (Row.rowQ (score X i) (num lab) (num lab i) + if Extra lab X i t then 1 else 0)

/-- A row's precision from its label and rank: nothing for label zero or from rank five on, else `1 / (rank + 1)`. -/
def apk (l r : BitVec 32) : EReal :=
  Scalar.select (IntOp.ori (IntOp.cmpi .eq l 0#32) (IntOp.cmpi .sge r 5#32)) 0
    (Ideal.div 1 (FloatOps.sitofp (F := Ideal) .f32 r + 1))

/-- The twenty thresholds. -/
def thr (t : Fin 20) : BitVec 32 :=
  (![0x3F800000#32, 0x3F733333#32, 0x3F666666#32, 0x3F59999A#32, 0x3F4CCCCD#32, 0x3F400000#32, 0x3F333333#32,
    0x3F266666#32, 0x3F19999A#32, 0x3F0CCCCD#32, 0x3F000000#32, 0x3EE66666#32, 0x3ECCCCCD#32, 0x3EB33333#32,
    0x3E99999A#32, 0x3E800000#32, 0x3E4CCCCD#32, 0x3E19999A#32, 0x3DCCCCCD#32, 0x3D4CCCCD#32] : Fin 20 → BitVec 32) t

/-- The rows' precisions added up, at the threshold with bit pattern `tb`. -/
def total (lab : Fin 4096 → BitVec 32) (X : Fin 4096 → Fin 1024 → Ideal .f32) (tb : BitVec 32) : EReal :=
  ∑ i, apk (lab i) (rank lab X i (Ideal.ofBits .f32 tb))

/-- The mean precision at threshold number `t`. -/
def mean (lab : Fin 4096 → BitVec 32) (X : Fin 4096 → Fin 1024 → Ideal .f32) (t : Fin 20) : EReal :=
  Ideal.div (total lab X (thr t)) (Ideal.ofBits .f32 0x45800000#32)

/-- The largest mean precision over the thresholds. -/
def best (lab : Fin 4096 → BitVec 32) (X : Fin 4096 → Fin 1024 → Ideal .f32) : EReal :=
  (Finset.univ : Finset (Fin 20)).fold max (Ideal.ofBits .f32 0xFF800000#32) (mean lab X)

/-! ## The constants -/

/-- -1000 as an extended real. -/
theorem ofBits_diag : Ideal.ofBits .f32 0xC47A0000#32 = ((-1000 : ℝ) : EReal) := by
  simp [Ideal.ofBits, Ideal.ieee]
  rw [← EReal.coe_mul]
  norm_num

/-- The mask value is below -1000. -/
theorem ofBits_mask_lt : Ideal.ofBits .f32 0xF149F2CA#32 < Ideal.ofBits .f32 0xC47A0000#32 := by
  rw [ofBits_diag]
  simp [Ideal.ofBits, Ideal.ieee]
  exact_mod_cast (by norm_num : (1000 : ℝ) < 13234890 * 2 ^ 76)

/-- The mask value is below zero. -/
theorem ofBits_mask_neg : Ideal.ofBits .f32 0xF149F2CA#32 ≤ 0 := by
  refine ofBits_mask_lt.le.trans ?_
  rw [ofBits_diag]
  exact_mod_cast (by norm_num : (-1000 : ℝ) ≤ 0)

/-- One half. -/
theorem ofBits_half : Ideal.ofBits .f32 0x3F000000#32 = ((1 / 2 : ℝ) : EReal) := by
  simp [Ideal.ofBits, Ideal.ieee]
  rw [← EReal.coe_mul]
  norm_num

/-- The start of a maximum is the least extended real. -/
theorem ofBits_bot : Ideal.ofBits .f32 0xFF800000#32 = ⊥ := by
  simp [Ideal.ofBits, Ideal.ieee]

/-- 4096. -/
theorem ofBits_count : Ideal.ofBits .f32 0x45800000#32 = ((4096 : ℝ) : EReal) := by
  simp [Ideal.ofBits, Ideal.ieee]
  rw [← EReal.coe_mul]
  norm_num

end Cert.Spec

end
-- ==== Proof.RowMax.lean ====
/-
One row read by maxima: the best score of a label, the last entry attaining it, the labels counted by
a product of zero-one tables, and what comes of them.
-/
module

public import Idealize.ShloMosaic.Lib.ValueIdxCore
public import proofs.«01_k».proof.Proof.Spec

@[expose] public section

noncomputable section

namespace Cert.RowMax

open Idealize.ShloMosaic Idealize.ShloMosaic.WordCmp Idealize.ShloMosaic.IndicatorCount

/-! ## Maxima of words -/

/-- The signed maximum of two words, as integers. -/
theorem toInt_maxsi {w : ℕ} (x y : BitVec w) : (IntOp.maxsi x y).toInt = max x.toInt y.toInt := by
  unfold IntOp.maxsi
  by_cases h : y.toInt < x.toInt
  · have : y.slt x = true := by rw [BitVec.slt_eq_decide]; simpa using h
    rw [this, if_pos rfl, max_eq_left h.le]
  · have : y.slt x = false := by rw [BitVec.slt_eq_decide]; simpa using h
    rw [this]; simp only [Bool.false_eq_true, if_false]
    rw [max_eq_right (not_lt.mp h)]

/-- The signed maximum over a finite set, as an integer. -/
theorem toInt_fold_maxsi {w : ℕ} {ι : Type} (S : Finset ι) (x : BitVec w) (f : ι → BitVec w) :
    (S.fold IntOp.maxsi x f).toInt = S.fold max x.toInt fun k => (f k).toInt := by
  classical
  induction S using Finset.induction_on with
  | empty => simp
  | insert a S ha ih => rw [Finset.fold_insert ha, Finset.fold_insert ha, toInt_maxsi, ih]

/-- The last marked index, found as a signed maximum with -1 at the unmarked ones. -/
theorem fold_last (p : Fin 4096 → BitVec 1) (b : Fin 4096) (hb : p b = 1#1) (hlast : ∀ j, p j = 1#1 → j ≤ b) :
    (Finset.univ : Finset (Fin 4096)).fold IntOp.maxsi 2147483648#32
      (fun x => Scalar.select (p x) (BitVec.ofNat 32 x.val) 4294967295#32) = BitVec.ofNat 32 b.val := by
  apply BitVec.eq_of_toInt_eq
  have hv : ∀ j : Fin 4096, (BitVec.ofNat 32 j.val).toInt = j.val := fun j =>
    toInt_ofNat_of_lt (by have := j.isLt; omega)
  rw [toInt_fold_maxsi, hv]
  apply le_antisymm
  · rw [Finset.fold_max_le]
    refine ⟨by have : (2147483648#32 : BitVec 32).toInt = -2147483648 := by decide
               omega, fun j _ => ?_⟩
    by_cases h : p j = 1#1
    · rw [h, select_one, hv]
      exact_mod_cast hlast j h
    · rw [ValueIdx.eq_zero_of_ne_one h, select_zero]
      have : (4294967295#32 : BitVec 32).toInt = -1 := by decide
      omega
  · rw [Finset.le_fold_max]
    right
    exact ⟨b, Finset.mem_univ _, by rw [hb, select_one, hv]⟩

/-! ## One row -/

section OneRow

open Row Spec

variable (s : Fin 4096 → EReal) (w : Fin 4096 → BitVec 32) (L : BitVec 32) (neg : EReal)

/-- The best score among a label is that of its first entry. -/
theorem fold_best {b : Fin 4096} (hb : First s (num w) L.toNat b) (hneg : neg ≤ s b) :
    (Finset.univ : Finset (Fin 4096)).fold max (Ideal.ofBits .f32 0xFF800000#32)
      (fun x => Scalar.select (IntOp.cmpi .eq (w x) L) (s x) neg) = s b := by
  rw [ofBits_bot]
  apply le_antisymm
  · rw [Finset.fold_max_le]
    refine ⟨bot_le, fun j _ => ?_⟩
    rw [cmpi_eq_eq, select_decide]
    split
    · next h => exact hb.top j (by unfold num; rw [h])
    · exact hneg
  · rw [Finset.le_fold_max]
    right
    refine ⟨b, Finset.mem_univ _, ?_⟩
    have : w b = L := BitVec.eq_of_toNat_eq hb.lab_eq
    rw [cmpi_eq_eq, select_decide, if_pos this]

/-- The last entry of a label that attains its best score is the label's first entry. -/
theorem fold_bestIdx {b : Fin 4096} (hb : First s (num w) L.toNat b) :
    (Finset.univ : Finset (Fin 4096)).fold IntOp.maxsi 2147483648#32
      (fun x => Scalar.select (IntOp.andi (IntOp.cmpi .eq (w x) L) (BitVec.ofBool (decide (s x = s b)))) (BitVec.ofNat 32 x.val) 4294967295#32)
      = BitVec.ofNat 32 b.val := by
  have e : ∀ j, IntOp.andi (IntOp.cmpi .eq (w j) L) (BitVec.ofBool (decide (s j = s b))) = 1#1 ↔ w j = L ∧ s j = s b := by
    intro j
    rw [cmpi_eq_eq, andi_ofBool, ← Bool.decide_and, ofBool_decide_eq_one_iff]
  refine fold_last _ b ((e b).mpr ⟨BitVec.eq_of_toNat_eq hb.lab_eq, rfl⟩) fun j hj => ?_
  obtain ⟨h1, h2⟩ := (e j).mp hj
  exact hb.last j (by unfold num; rw [h1]) h2

/-- Being ahead of an entry, as the bit the comparisons give. -/
theorem before_bit (b j : Fin 4096) :
    IntOp.ori (BitVec.ofBool (decide (s b < s j))) (IntOp.andi (BitVec.ofBool (decide (s j = s b)))
      (IntOp.cmpi .sgt (BitVec.ofNat 32 j.val) (BitVec.ofNat 32 b.val))) = 1#1 ↔ Before s j b := by
  rw [cmpi_sgt_ofNat (by have := j.isLt; omega) (by have := b.isLt; omega), andi_ofBool, ori_ofBool, ← Bool.decide_and, ← Bool.decide_or,
    ofBool_decide_eq_one_iff]
  rfl

/-- A bit widened and made a number is one or zero. -/
theorem sitofp_bit (p : BitVec 1) : FloatOps.sitofp (F := Ideal) .f32 (BitVec.setWidth 32 p) = if p = 1#1 then (1 : EReal) else 0 := by
  show (((BitVec.setWidth 32 p).toInt : ℝ) : EReal) = _
  rcases BitVec.eq_zero_or_eq_one p with h | h <;> subst h <;> simp

/-- A sum of zero-one products is at least one half exactly when some product is one. -/
theorem half_le_iff (p q : Fin 4096 → BitVec 1) :
    Ideal.ofBits .f32 0x3F000000#32 ≤ ∑ j, FloatOps.sitofp (F := Ideal) .f32 (BitVec.setWidth 32 (p j)) * FloatOps.sitofp (F := Ideal) .f32 (BitVec.setWidth 32 (q j))
      ↔ ∃ j, p j = 1#1 ∧ q j = 1#1 := by
  have e : ∀ j, FloatOps.sitofp (F := Ideal) .f32 (BitVec.setWidth 32 (p j)) * FloatOps.sitofp (F := Ideal) .f32 (BitVec.setWidth 32 (q j))
      = if p j = 1#1 ∧ q j = 1#1 then (1 : EReal) else 0 := by
    intro j
    rw [sitofp_bit, sitofp_bit]
    by_cases h1 : p j = 1#1 <;> by_cases h2 : q j = 1#1 <;> simp [h1, h2]
  rw [Finset.sum_congr rfl fun j _ => e j, ofBits_half]
  constructor
  · intro h
    by_contra hn
    push Not at hn
    rw [Finset.sum_eq_zero fun j _ => if_neg fun hj => hn j hj.1 hj.2] at h
    have : ((1 / 2 : ℝ)) ≤ 0 := by exact_mod_cast h
    norm_num at this
  · rintro ⟨j, hj⟩
    have h1 : (if p j = 1#1 ∧ q j = 1#1 then (1 : EReal) else 0) ≤ ∑ j, if p j = 1#1 ∧ q j = 1#1 then (1 : EReal) else 0 :=
      Finset.single_le_sum (f := fun j => if p j = 1#1 ∧ q j = 1#1 then (1 : EReal) else 0) (fun k _ => by split <;> simp) (Finset.mem_univ j)
    rw [if_pos hj] at h1
    refine le_trans ?_ h1
    exact_mod_cast (by norm_num : (1 / 2 : ℝ) ≤ 1)

/-- The number of labels counted as occurring ahead is the row's rank. -/
theorem count_eq {b : Fin 4096} (hb : First s (num w) L.toNat b) (hw : ∀ j, (w j).toNat < 1000) :
    (Finset.univ : Finset (Fin 1024)).fold IntOp.addi 0#32 (fun x => BitVec.setWidth 32 (BitVec.ofBool (decide (Ideal.ofBits .f32 0x3F000000#32 ≤
        ∑ j, FloatOps.sitofp (F := Ideal) .f32 (BitVec.setWidth 32 (IntOp.ori (BitVec.ofBool (decide (s b < s j)))
          (IntOp.andi (BitVec.ofBool (decide (s j = s b))) (IntOp.cmpi .sgt (BitVec.ofNat 32 j.val) (BitVec.ofNat 32 b.val)))))
        * FloatOps.sitofp (F := Ideal) .f32 (BitVec.setWidth 32 (IntOp.cmpi .eq (w j) (BitVec.ofNat 32 x.val)))))))
      = BitVec.ofNat 32 (rowQ s (num w) L.toNat) := by
  classical
  rw [fold_addi_setWidth_eq_card]
  refine congrArg (BitVec.ofNat 32) ?_
  unfold rowQ
  rw [← Finset.card_map Fin.valEmbedding]
  refine congrArg Finset.card ?_
  ext c
  simp only [Finset.mem_map, Finset.mem_filter, Finset.mem_univ, true_and, Finset.mem_image, ofBool_decide_eq_one_iff, half_le_iff,
    before_bit, cmpi_eq_eq, hb.ahead_iff, Fin.valEmbedding_apply]
  constructor
  · rintro ⟨x, ⟨j, h1, h2⟩, rfl⟩
    refine ⟨j, h1, ?_⟩
    unfold num
    rw [h2, toNat_ofNat_of_lt (by have := x.isLt; omega)]
  · rintro ⟨j, h1, rfl⟩
    have := hw j
    refine ⟨⟨num w j, by unfold num; omega⟩, ⟨j, h1, ?_⟩, rfl⟩
    simp [num]

/-- Whether label zero's best entry comes later, as the comparisons give it. -/
theorem zeroLater_bit {b : Fin 4096} (hb : First s (num w) L.toNat b) (hneg : neg < s b) (m0 : EReal)
    (hm : m0 = (Finset.univ : Finset (Fin 4096)).fold max (Ideal.ofBits .f32 0xFF800000#32)
      (fun x => Scalar.select (IntOp.cmpi .eq (w x) 0#32) (s x) neg)) :
    IntOp.ori (BitVec.ofBool (decide (m0 < s b))) (IntOp.andi (BitVec.ofBool (decide (m0 = s b)))
      (IntOp.cmpi .slt ((Finset.univ : Finset (Fin 4096)).fold IntOp.maxsi 2147483648#32
        (fun x => Scalar.select (IntOp.andi (IntOp.cmpi .eq (w x) 0#32) (BitVec.ofBool (decide (s x = m0)))) (BitVec.ofNat 32 x.val) 4294967295#32))
        (BitVec.ofNat 32 b.val))) = 1#1 ↔ ZeroLater s (num w) L.toNat := by
  by_cases hz : ∃ z, First s (num w) (0#32 : BitVec 32).toNat z ∧ neg ≤ s z
  · obtain ⟨z, hz, hzn⟩ := hz
    rw [fold_best s w 0#32 neg hz hzn] at hm
    subst hm
    rw [fold_bestIdx s w 0#32 hz, cmpi_slt_ofNat (by have := z.isLt; omega) (by have := b.isLt; omega), andi_ofBool, ori_ofBool, ← Bool.decide_and,
      ← Bool.decide_or, ofBool_decide_eq_one_iff]
    rw [hb.zeroLater_iff hz]
    unfold Before
    rw [eq_comm (a := s z)]
    rfl
  · have hlow : ∀ j, num w j = 0 → s j < neg := by
      intro j hj
      obtain ⟨z, hz'⟩ := exists_first (s := s) (lab := num w) (L := 0) ⟨j, hj⟩
      have : ¬ neg ≤ s z := fun h => hz ⟨z, hz', h⟩
      exact (hz'.top j hj).trans_lt (not_le.mp this)
    have h0 : m0 ≤ neg := by
      rw [hm, ofBits_bot, Finset.fold_max_le]
      refine ⟨bot_le, fun j _ => ?_⟩
      rw [cmpi_eq_eq, select_decide]
      split
      · next h => exact (hlow j (by unfold num; rw [h]; rfl)).le
      · exact le_rfl
    rw [decide_eq_true (h0.trans_lt hneg)]
    refine iff_of_true ?_ fun j hj => ⟨b, hb.lab_eq, Or.inl ((hlow j hj).trans hneg)⟩
    rcases BitVec.eq_zero_or_eq_one (IntOp.andi (BitVec.ofBool (decide (m0 = s b)))
      (IntOp.cmpi .slt ((Finset.univ : Finset (Fin 4096)).fold IntOp.maxsi 2147483648#32
        (fun x => Scalar.select (IntOp.andi (IntOp.cmpi .eq (w x) 0#32) (BitVec.ofBool (decide (s x = m0)))) (BitVec.ofNat 32 x.val) 4294967295#32))
        (BitVec.ofNat 32 b.val))) with h | h <;> rw [h] <;> decide

end OneRow

/-- A rank put together from the count and the inserted zero. -/
theorem addi_bit (q : ℕ) (p z : BitVec 1) (P Z : Prop) [Decidable (P ∧ Z)] (hp : p = 1#1 ↔ P) (hz : z = 1#1 ↔ Z) :
    IntOp.addi (BitVec.ofNat 32 q) (BitVec.setWidth 32 (IntOp.andi p z)) = BitVec.ofNat 32 (q + if P ∧ Z then 1 else 0) := by
  have e : BitVec.setWidth 32 (IntOp.andi p z) = BitVec.ofNat 32 (if P ∧ Z then 1 else 0) := by
    rcases BitVec.eq_zero_or_eq_one p with h | h <;> rcases BitVec.eq_zero_or_eq_one z with g | g <;> subst h <;> subst g <;>
      simp [← hp, ← hz] <;> decide
  rw [e]
  exact (BitVec.ofNat_add _ _).symm

end Cert.RowMax

end
-- ==== Proof.KernelIdeal.Block.lean ====
/-
What one grid point contributes to the totals, in terms of the labels and the features, and what the
block written at the end holds.
-/
module

public import proofs.«01_k».proof.Proof.KernelIdeal.Read
public import proofs.«01_k».proof.Proof.RowMax

@[expose] public section

set_option maxRecDepth 16384

noncomputable section

namespace Cert.KernelIdeal.Hand

open Cert.KernelIdeal.Gen
open Idealize.ShloMosaic Idealize.ShloMosaic.Pointwise Idealize.ShloMosaic.WordCmp
open Cert.Spec Cert.Row

/-- Row `r` of block `g`, counted over all the rows. -/
def row (g : Fin 32) (r : Fin 128) : Fin 4096 := ⟨r.val + 128 * g.val, by have := g.isLt; have := r.isLt; omega⟩

/-- Adding up block by block is adding up over all the rows. -/
theorem sum_rows (f : Fin 4096 → EReal) : ∑ g, ∑ r, f (row g r) = ∑ i, f i := by
  rw [← Fintype.sum_prod_type']
  exact Fintype.sum_equiv (finProdFinEquiv : Fin 32 × Fin 128 ≃ Fin (32 * 128)) _ _ fun _ => rfl

/-- The blocks one grid point is handed, in terms of the labels and the features. -/
structure Handed (lab : Fin 4096 → BitVec 32) (X : Fin 4096 → Fin 1024 → Ideal .f32) (i : grid0.Coords) (g : Fin 32)
    (x0 : Vec Ideal S1x4096 .i32) (rr : Vec Ideal S128x1 .i32) (x2 : Vec Ideal S128x1024 .f32) (x3 : Vec Ideal S4096x1024 .f32)
    (oh : Vec Ideal S4096x1024 .bf16) : Prop where
  pos : (i 0).val = g.val
  h0 : ∀ j, x0 (ix2 0 j) = lab j
  hr : ∀ r, rr (ix2 r 0) = lab (row g r)
  h2 : ∀ r k, x2 (ix2 r k) = X (row g r) k
  h3 : ∀ j k, x3 (ix2 j k) = X j k
  hoh : ∀ j l, oh (ix2 j l) = FloatOps.sitofp (F := Ideal) .f32 (BitVec.setWidth 32 (IntOp.cmpi .eq (lab j) (BitVec.ofNat 32 l.val)))

section

variable {lab : Fin 4096 → BitVec 32} {X : Fin 4096 → Fin 1024 → Ideal .f32} {i : grid0.Coords} {g : Fin 32}
  {x0 : Vec Ideal S1x4096 .i32} {rr : Vec Ideal S128x1 .i32} {x2 : Vec Ideal S128x1024 .f32} {x3 : Vec Ideal S4096x1024 .f32}
  {oh : Vec Ideal S4096x1024 .bf16}

/-- The masked product is the row's score. -/
theorem score_at (h : Handed lab X i g x0 rr x2 x3 oh) (r : Fin 128) (j : Fin 4096) :
    k0_pay6 i x2 x3 (ix2 r j) = score X (row g r) j := by
  have hg := g.isLt
  have hr := r.isLt
  have hj := j.isLt
  rw [read6, h.pos]
  have e : IntOp.addi (BitVec.ofNat 32 r.val) (Scalar.muli (BitVec.ofNat 32 g.val) 128#32) = BitVec.ofNat 32 (r.val + 128 * g.val) := by
    show BitVec.ofNat 32 r.val + BitVec.ofNat 32 g.val * 128#32 = _
    rw [BitVec.ofNat_add, BitVec.ofNat_mul, BitVec.mul_comm]
  rw [e, cmpi_eq_ofNat (by omega) (by omega), select_decide]
  unfold score
  by_cases hd : j.val = r.val + 128 * g.val
  · rw [if_pos hd, if_pos (Fin.ext hd.symm)]
  · rw [if_neg hd, if_neg fun e => hd (congrArg Fin.val e).symm]
    exact Finset.sum_congr rfl fun k _ => by rw [h.h2, h.h3]

/-- Every row has a first entry of its own label, and it scores above the mask value. -/
theorem own_first (lab : Fin 4096 → BitVec 32) (X : Fin 4096 → Fin 1024 → Ideal .f32) (a : Fin 4096) :
    ∃ b, First (score X a) (num lab) (lab a).toNat b ∧ Ideal.ofBits .f32 0xF149F2CA#32 < score X a b := by
  obtain ⟨b, hb⟩ := exists_first (s := score X a) (lab := num lab) (L := (lab a).toNat) ⟨a, rfl⟩
  refine ⟨b, hb, lt_of_lt_of_le ?_ (hb.top a rfl)⟩
  unfold score
  rw [if_pos rfl]
  exact ofBits_mask_lt

/-- One row's precision, from the body's values, is the one of its label and rank. -/
theorem apk_at (hlab : ∀ j, (lab j).toNat < 1000) (h : Handed lab X i g x0 rr x2 x3 oh) (tb : BitVec 32) (r : Fin 128) :
    apkV tb (k0_pay5 rr) (k0_pay9 i x2 x3 x0 rr) (rankV i x0 rr x2 x3 oh) (zltV i x0 rr x2 x3) (ix2 r 0)
      = apk (lab (row g r)) (rank lab X (row g r) (Ideal.ofBits .f32 tb)) := by
  classical
  obtain ⟨b, hb, hneg⟩ := own_first lab X (row g r)
  have e9 : k0_pay9 i x2 x3 x0 rr (ix2 r 0) = score X (row g r) b := by
    rw [read9]
    simp only [h.h0, h.hr, score_at h]
    exact RowMax.fold_best _ lab _ _ hb hneg.le
  have e12 : k0_pay12 laneN (k0_pay11 i x2 x3 x0 rr) (ix2 r 0) = BitVec.ofNat 32 b.val := by
    rw [read12]
    simp only [read11, h.h0, h.hr, score_at h, e9]
    exact RowMax.fold_bestIdx _ lab _ hb
  have eq : rankV i x0 rr x2 x3 oh (ix2 r 0) = BitVec.ofNat 32 (rowQ (score X (row g r)) (num lab) (lab (row g r)).toNat) := by
    unfold rankV
    rw [read13]
    simp only [e12, e9, score_at h, h.hoh]
    exact RowMax.count_eq _ lab _ hb hlab
  have ez : zltV i x0 rr x2 x3 (ix2 r 0) = 1#1 ↔ ZeroLater (score X (row g r)) (num lab) (lab (row g r)).toNat := by
    unfold zltV
    rw [read14]
    simp only [e12, e9, score_at h, read8, h.h0]
    refine RowMax.zeroLater_bit _ lab _ _ hb hneg _ ?_
    rw [read10]
    simp only [h.h0, score_at h]
  have el : BitVec.ofBool (decide (score X (row g r) b < Ideal.ofBits .f32 tb)) = 1#1
      ↔ Low (score X (row g r)) (num lab) (lab (row g r)).toNat (Ideal.ofBits .f32 tb) := by
    rw [ofBool_decide_eq_one_iff, hb.low_iff]
  have er : IntOp.addi (BitVec.ofNat 32 (rowQ (score X (row g r)) (num lab) (lab (row g r)).toNat))
      (BitVec.setWidth 32 (IntOp.andi (BitVec.ofBool (decide (score X (row g r) b < Ideal.ofBits .f32 tb))) (zltV i x0 rr x2 x3 (ix2 r 0))))
      = rank lab X (row g r) (Ideal.ofBits .f32 tb) :=
    @RowMax.addi_bit _ _ _ _ _ (Classical.propDecidable _) el ez
  rw [readApk, read5, e9, eq, h.hr, er]
  rfl

/-- The lane of a threshold holds the block's precisions added up. -/
theorem block_at (hlab : ∀ j, (lab j).toNat < 1000) (h : Handed lab X i g x0 rr x2 x3 oh) (t : Fin 20) :
    blockV i x0 rr x2 x3 oh (ix2 0 ⟨t.val, by have := t.isLt; omega⟩) = ∑ r, apk (lab (row g r)) (rank lab X (row g r) (Ideal.ofBits .f32 (thr t))) := by
  have key : ∀ (p : BitVec 32 × BitVec 32) (l : Fin 128),
      laneV p (k0_pay5 rr) (k0_pay9 i x2 x3 x0 rr) (rankV i x0 rr x2 x3 oh) (zltV i x0 rr x2 x3) (ix2 0 l)
        = if BitVec.ofNat 32 l.val = p.1 then ∑ r, apk (lab (row g r)) (rank lab X (row g r) (Ideal.ofBits .f32 p.2)) else 0 := by
    intro p l
    rw [readLane, cmpi_eq_eq, select_decide]
    simp only [apk_at hlab h]
  have hadd : ∀ (a b : FVec Ideal S1x128 .f32) (l : Fin 128), addf a b (ix2 0 l) = a (ix2 0 l) + b (ix2 0 l) := fun _ _ _ => rfl
  have hz : ∀ l : Fin 128, (broadcast S1x128 (Scalar.ofBits .f32 0x00000000#32) : FVec Ideal S1x128 .f32) (ix2 0 l) = 0 := fun l => by
    pointwise
  unfold blockV sweepV thrList
  simp only [List.foldl_cons, List.foldl_nil, hadd, key, hz]
  fin_cases t <;> simp [thr]

/-- The totals after a point, lane by lane. -/
theorem step_at (hlab : ∀ j, (lab j).toNat < 1000) (h : Handed lab X i g x0 rr x2 x3 oh) (a : Vec Ideal S1x128 .f32) (t : Fin 20) :
    stepV i x0 rr x2 x3 oh a (ix2 0 ⟨t.val, by have := t.isLt; omega⟩)
      = (if g.val = 0 then 0 else a (ix2 0 ⟨t.val, by have := t.isLt; omega⟩)) + ∑ r, apk (lab (row g r)) (rank lab X (row g r) (Ideal.ofBits .f32 (thr t))) := by
  have h1 : ∀ v : FVec Ideal S1x128 .f32, ∀ l : Fin 128, k0_pay1 v (ix2 0 l) = v (ix2 0 l) := fun v l => by pointwise [k0_pay1]
  unfold stepV
  rw [h1, h.pos]
  rw [show Scalar.cmpi .eq (BitVec.ofNat 32 g.val) 0#32 = BitVec.ofBool (decide (g.val = 0)) from
    cmpi_eq_ofNat (by have := g.isLt; omega) (by omega)]
  rw [select_decide]
  split
  · rw [zero_add, block_at hlab h]
  · rw [show ∀ (a b : FVec Ideal S1x128 .f32) (l : Fin 128), addf a b (ix2 0 l) = a (ix2 0 l) + b (ix2 0 l) from fun _ _ _ => rfl, block_at hlab h]

end

/-- A row's precision is not negative. -/
theorem apk_nonneg (lab : Fin 4096 → BitVec 32) (X : Fin 4096 → Fin 1024 → Ideal .f32) (a : Fin 4096) (t : EReal) :
    0 ≤ apk (lab a) (rank lab X a t) := by
  classical
  have hq : rowQ (score X a) (num lab) (num lab a) ≤ 4096 := by
    unfold rowQ
    refine Finset.card_image_le.trans ((Finset.card_le_card (Finset.subset_univ _)).trans ?_)
    simp
  have hr : 0 ≤ (rank lab X a t).toInt := by
    unfold rank
    rw [toInt_ofNat_of_lt (by split <;> omega)]
    exact Int.natCast_nonneg _
  unfold apk
  generalize IntOp.ori _ _ = c
  rcases BitVec.eq_zero_or_eq_one c with e | e <;> rw [e]
  · rw [select_zero]
    have hs : (0 : EReal) ≤ FloatOps.sitofp (F := Ideal) .f32 (rank lab X a t) + 1 := by
      have : (0 : EReal) ≤ (((rank lab X a t).toInt : ℝ) : EReal) := by exact_mod_cast hr
      exact add_nonneg this zero_le_one
    unfold Ideal.div
    split_ifs <;> simp_all [EReal.inv_nonneg_of_nonneg]
  · rw [select_one]

/-- The mean precisions are not negative. -/
theorem mean_nonneg (lab : Fin 4096 → BitVec 32) (X : Fin 4096 → Fin 1024 → Ideal .f32) (t : Fin 20) : 0 ≤ mean lab X t := by
  have h : 0 ≤ total lab X (thr t) := Finset.sum_nonneg fun a _ => apk_nonneg lab X a _
  have hc : (0 : EReal) ≤ ((4096 : ℝ) : EReal) := by exact_mod_cast (by norm_num : (0 : ℝ) ≤ 4096)
  have hc' : ((4096 : ℝ) : EReal) ≠ 0 := by exact_mod_cast (by norm_num : (4096 : ℝ) ≠ 0)
  unfold mean
  rw [ofBits_count]
  unfold Ideal.div
  rw [if_neg hc']
  exact mul_nonneg h (EReal.inv_nonneg_of_nonneg hc)

/-- The block written last holds the largest mean precision, when its lanes hold the totals. -/
theorem last_at (lab : Fin 4096 → BitVec 32) (X : Fin 4096 → Fin 1024 → Ideal .f32) (a : Vec Ideal S1x128 .f32)
    (ha : ∀ t : Fin 20, a (ix2 0 ⟨t.val, by have := t.isLt; omega⟩) = total lab X (thr t)) : lastV a (ix2 0 0) = best lab X := by
  have hlane : ∀ l : Fin 128, Scalar.select (IntOp.cmpi .slt (BitVec.ofNat 32 l.val) 20#32) (Ideal.div (a (ix2 0 l)) (Ideal.ofBits .f32 0x45800000#32)) (Ideal.ofBits .f32 0xF149F2CA#32)
      = if h : l.val < 20 then mean lab X ⟨l.val, h⟩ else Ideal.ofBits .f32 0xF149F2CA#32 := by
    intro l
    rw [cmpi_slt_ofNat (by have := l.isLt; omega) (by omega), select_decide]
    split
    · next h =>
      unfold mean
      rw [← ha ⟨l.val, h⟩]
    · rfl
  rw [readLast]
  simp only [hlane]
  unfold best
  rw [ofBits_bot]
  apply le_antisymm
  · rw [Finset.fold_max_le]
    refine ⟨bot_le, fun x _ => ?_⟩
    rw [Finset.le_fold_max]
    right
    split
    · next h => exact ⟨_, Finset.mem_univ _, le_rfl⟩
    · exact ⟨0, Finset.mem_univ _, ofBits_mask_neg.trans (mean_nonneg lab X 0)⟩
  · rw [Finset.fold_max_le]
    refine ⟨bot_le, fun t _ => ?_⟩
    rw [Finset.le_fold_max]
    right
    refine ⟨(0, ⟨t.val, by have := t.isLt; omega⟩), Finset.mem_univ _, ?_⟩
    rw [dif_pos t.isLt]

end Cert.KernelIdeal.Hand

end
-- ==== Proof.KernelIdeal.Final.lean ====
/-
The kernel program's result: the largest mean precision of the labels and the features it is given.
-/
module

public import proofs.«01_k».proof.Proof.KernelIdeal.Frame
public import proofs.«01_k».proof.Proof.KernelIdeal.Block
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe Idealize.ShloMosaic.Pointwise Idealize.SL.Sem
open Idealize.ShloMosaic.Pipeline (Dat Cfg Window BodyObligation cellOf)
open Cert.Spec Cert.Row

variable (m : (ℓ : Loc nD τ sig) → Buf (Elt Ideal) ℓ) (ρ : Dev nD → PrngReg)

/-- The labels as launched. -/
def labOf (c : Dev nD) (j : Fin 4096) : BitVec 32 := (m ((c.tc : Thread nD τ).loc main_arg0) : Vec Ideal S4096 .i32) (ix1 j)

/-- The features as launched. -/
def featOf (c : Dev nD) (j : Fin 4096) (k : Fin 1024) : Ideal .f32 := (m ((c.tc : Thread nD τ).loc main_arg1) : Vec Ideal S4096x1024 .f32) (ix2 j k)

/-- A row made of a vector. -/
theorem row_of_vec (v : Vec Ideal S4096 .i32) (j : Fin 4096) : shapeCast S1x4096 v shapeCasts_S4096_S1x4096 (ix2 0 j) = v (ix1 j) := by
  pointwise

/-- A column made of a vector. -/
theorem col_of_vec (v : Vec Ideal S4096 .i32) (j : Fin 4096) : shapeCast S4096x1 v shapeCasts_S4096_S4096x1 (ix2 j 0) = v (ix1 j) := by
  pointwise

/-- The label row the region finds. -/
theorem V_row (c : Dev nD) (j : Fin 4096) : (V m c main_v0 : Vec Ideal S1x4096 .i32) (ix2 0 j) = labOf m c j := by
  entry_read
  exact row_of_vec _ j

/-- The label column the region finds. -/
theorem V_col (c : Dev nD) (j : Fin 4096) : (V m c main_v1 : Vec Ideal S4096x1 .i32) (ix2 j 0) = labOf m c j := by
  entry_read
  exact col_of_vec _ j

/-- Where the label row's block lies. -/
theorem index0 : ∀ t : Fin cfg0.N, win0_0.index t 0 = 0 ∧ win0_0.index t 1 = 0 := by decide +kernel
/-- Where the label column's block lies. -/
theorem index1 : ∀ t : Fin cfg0.N, win0_1.index t 0 = 0 ∧ win0_1.index t 1 = 0 := by decide +kernel
/-- Where the block of feature rows lies. -/
theorem index2 : ∀ t : Fin cfg0.N, win0_2.index t 0 = t.val ∧ win0_2.index t 1 = 0 := by decide +kernel
/-- Where the feature table's block lies. -/
theorem index3 : ∀ t : Fin cfg0.N, win0_3.index t 0 = 0 ∧ win0_3.index t 1 = 0 := by decide +kernel

/-- The label row's block is the whole row, at every point. -/
theorem blk0_at (c : Dev nD) (t : Fin cfg0.N) (j : Fin 4096) : (iblk m c 0 t : Vec Ideal S1x4096 .i32) (ix2 0 j) = labOf m c j := by
  rw [← V_row m c j]
  unfold iblk
  blk_simp
  have e : (win0_0.blk t).view.emb (ix2 0 j) = (ix2 0 j : S1x4096.Idx) := by
    funext a
    apply Fin.ext
    match a with
    | ⟨0, _⟩ => blk_simp; rw [(index0 t).1]; rfl
    | ⟨1, _⟩ => blk_simp; rw [(index0 t).2]; simp
  rw [e]

/-- The label column's block is the whole column, at every point. -/
theorem blk1_at (c : Dev nD) (t : Fin cfg0.N) (j : Fin 4096) : (iblk m c 1 t : Vec Ideal S4096x1 .i32) (ix2 j 0) = labOf m c j := by
  rw [← V_col m c j]
  unfold iblk
  blk_simp
  have e : (win0_1.blk t).view.emb (ix2 j 0) = (ix2 j 0 : S4096x1.Idx) := by
    funext a
    apply Fin.ext
    match a with
    | ⟨0, _⟩ => blk_simp; rw [(index1 t).1]; simp
    | ⟨1, _⟩ => blk_simp; rw [(index1 t).2]; rfl
  rw [e]

/-- The grid point's block of feature rows. -/
theorem blk2_at (c : Dev nD) (t : Fin cfg0.N) (g : Fin 32) (hg : t.val = g.val) (r : Fin 128) (k : Fin 1024) :
    (iblk m c 2 t : Vec Ideal S128x1024 .f32) (ix2 r k) = featOf m c (row g r) k := by
  unfold featOf
  rw [← V_main_arg1 m c]
  unfold iblk
  blk_simp
  have e : (win0_2.blk t).view.emb (ix2 r k) = (ix2 (row g r) k : S4096x1024.Idx) := by
    funext a
    apply Fin.ext
    match a with
    | ⟨0, _⟩ =>
      blk_simp; rw [(index2 t).1, hg]
      show g.val * 128 + r.val = r.val + 128 * g.val
      omega
    | ⟨1, _⟩ => blk_simp; rw [(index2 t).2]; simp
  rw [e]

/-- The feature table's block is the whole table, at every point. -/
theorem blk3_at (c : Dev nD) (t : Fin cfg0.N) (j : Fin 4096) (k : Fin 1024) : (iblk m c 3 t : Vec Ideal S4096x1024 .f32) (ix2 j k) = featOf m c j k := by
  unfold featOf
  rw [← V_main_arg1 m c]
  unfold iblk
  blk_simp
  have e : (win0_3.blk t).view.emb (ix2 j k) = (ix2 j k : S4096x1024.Idx) := by
    funext a
    apply Fin.ext
    match a with
    | ⟨0, _⟩ => blk_simp; rw [(index3 t).1]; simp
    | ⟨1, _⟩ => blk_simp; rw [(index3 t).2]; simp
  rw [e]

/-- The grid point's coordinate is its position. -/
theorem coord_val (t : Fin cfg0.N) : (grid0.coords t 0).val = t.val := by
  have ht : t.val < 32 := Nat.lt_of_lt_of_eq t.isLt N_0
  have e0 : (grid0.coords t 0).val = t.val / 1 % 32 := Pipeline.Grid.coords_val t 0 (by decide) rfl
  omega

/-- The rows of the label column a grid point reads. -/
theorem rows_at (c : Dev nD) (t : Fin cfg0.N) (g : Fin 32) (hg : t.val = g.val) (r : Fin 128) :
    rowsOf (grid0.coords t) (iblk m c 1 t) (ix2 r 0) = labOf m c (row g r) := by
  have hg32 := g.isLt
  rw [← blk1_at m c t (row g r)]
  unfold rowsOf View.ld
  refine congrArg (iblk m c 1 t : Vec Ideal S4096x1 .i32) (funext fun a => Fin.ext ?_)
  have e : k0_off1 (grid0.coords t) 0 = 128 * g.val := by
    show (BitVec.ofNat 32 (grid0.coords t 0).val * 128#32).toNat = _
    rw [coord_val, hg, BitVec.toNat_mul, BitVec.toNat_ofNat, BitVec.toNat_ofNat]
    omega
  match a with
  | ⟨0, _⟩ =>
    show k0_off1 (grid0.coords t) 0 + 1 * r.val = r.val + 128 * g.val
    omega
  | ⟨1, _⟩ => rfl

/-- What a grid point is handed. -/
theorem handed (c : Dev nD) (t : Fin cfg0.N) (g : Fin 32) (hg : t.val = g.val) :
    Handed (labOf m c) (featOf m c) (grid0.coords t) g (iblk m c 0 t) (rowsOf (grid0.coords t) (iblk m c 1 t)) (iblk m c 2 t) (iblk m c 3 t) (ohAt m c) where
  pos := (coord_val t).trans hg
  h0 := blk0_at m c t
  hr := rows_at m c t g hg
  h2 := blk2_at m c t g hg
  h3 := blk3_at m c t
  hoh j l := by
    unfold ohAt
    rw [read3, blk1_at]

/-- The totals after the point at position `n`: the blocks up to it, added up. -/
theorem acc_at (c : Dev nD) (hlab : ∀ j, (labOf m c j).toNat < 1000) (t : Fin 20) : ∀ (n : ℕ) (hn : n < cfg0.N),
    accAt m c n hn (ix2 0 ⟨t.val, by have := t.isLt; omega⟩)
      = ∑ g ∈ Finset.univ.filter (fun g : Fin 32 => g.val ≤ n), ∑ r, apk (labOf m c (row g r)) (rank (labOf m c) (featOf m c) (row g r) (Ideal.ofBits .f32 (thr t)))
  | 0, hn => by
    rw [show accAt m c 0 hn = stepV (grid0.coords ⟨0, hn⟩) (iblk m c 0 ⟨0, hn⟩) (rowsOf (grid0.coords ⟨0, hn⟩) (iblk m c 1 ⟨0, hn⟩)) (iblk m c 2 ⟨0, hn⟩) (iblk m c 3 ⟨0, hn⟩) (ohAt m c) (fun _ => Scalar.ofBits (F := Ideal) .f32 0x00000000#32) from rfl,
      step_at hlab (handed m c ⟨0, hn⟩ 0 rfl)]
    rw [if_pos (by rfl), zero_add]
    rw [show (Finset.univ.filter fun g : Fin 32 => g.val ≤ 0) = {0} from by decide, Finset.sum_singleton]
  | n + 1, hn => by
    have h32 : n + 1 < 32 := Nat.lt_of_lt_of_eq hn N_0
    rw [show accAt m c (n + 1) hn = stepV (grid0.coords ⟨n + 1, hn⟩) (iblk m c 0 ⟨n + 1, hn⟩) (rowsOf (grid0.coords ⟨n + 1, hn⟩) (iblk m c 1 ⟨n + 1, hn⟩)) (iblk m c 2 ⟨n + 1, hn⟩) (iblk m c 3 ⟨n + 1, hn⟩) (ohAt m c) (accAt m c n (Nat.lt_of_succ_lt hn)) from rfl,
      step_at hlab (handed m c ⟨n + 1, hn⟩ ⟨n + 1, h32⟩ rfl), if_neg (Nat.succ_ne_zero n), acc_at c hlab t n (Nat.lt_of_succ_lt hn)]
    rw [show (Finset.univ.filter fun g : Fin 32 => g.val ≤ n + 1) = insert ⟨n + 1, h32⟩ (Finset.univ.filter fun g : Fin 32 => g.val ≤ n) from by
      ext g; simp only [Finset.mem_filter, Finset.mem_univ, true_and, Finset.mem_insert, Fin.ext_iff]; omega]
    rw [Finset.sum_insert (by simp), add_comm]

/-- The totals after the last point are those over all the rows. -/
theorem acc_last (c : Dev nD) (hlab : ∀ j, (labOf m c j).toNat < 1000) (t : Fin 20) (h : 31 < cfg0.N) :
    accAt m c 31 h (ix2 0 ⟨t.val, by have := t.isLt; omega⟩) = total (labOf m c) (featOf m c) (thr t) := by
  rw [acc_at m c hlab t 31 h]
  rw [Finset.filter_true_of_mem fun g _ => by have := g.isLt; omega]
  exact sum_rows fun i => apk (labOf m c i) (rank (labOf m c) (featOf m c) i (Ideal.ofBits .f32 (thr t)))

/-- The output array is written back once, whole, at the last point. -/
theorem whole_last (h : 31 < cfg0.N) : (cfg0.win 4).WholeAt ⟨31, h⟩ := by
  have : ∀ h : 31 < cfg0.N, (cfg0.win 4).WholeAt ⟨31, h⟩ := by decide +kernel
  exact this h

/-- The output array after the launch, at its first entry. -/
theorem out_at (c : Dev nD) (hlab : ∀ j, (labOf m c j).toNat < 1000) :
    ((dats m 0 c).arrAt 4 cfg0.N : Vec Ideal S8x128 .f32) (ix2 0 0) = best (labOf m c) (featOf m c) := by
  have h : 31 < cfg0.N := by have : cfg0.N = 32 := N_0; omega
  have e := (dats m 0 c).arrAt_emb_eq_after_last 4 ⟨31, h⟩ (whole_last h) (ix2 0 0 : S8x128.Idx)
  have e2 : ((dats m 0 c).arrAt 4 cfg0.N : Vec Ideal S8x128 .f32) (ix2 0 0) = lastV (accAt m c 31 h) (ix2 0 0) := e
  rw [e2]
  exact last_at _ _ _ fun t => acc_last m c hlab t h

/-- A scalar made of the first entry of a block. -/
theorem scalar_of_block (v : Vec Ideal S8x128 .f32) (k : S_.Idx) :
    shapeCast S_ (extractStridedSlice S1x1 ![0, 0] v slices_S8x128_S1x1_0_0) shapeCasts_S1x1_S_ k = v (ix2 0 0) := by
  pointwise

/-- Windows that share an array are inputs. -/
theorem shared : Pipeline.SharedIn cfg0.spec := by
  unfold Pipeline.SharedIn
  decide

/-- Every execution of the program ends with the result at the largest mean precision and the arguments unchanged. -/
theorem run (hlab : ∀ c j, (labOf m c j).toNat < 1000) :
    θ_run defs (onTc (τ := τ) (main (F := Ideal))) ⟨m, fun _ => 0, ρ⟩ (fun r => ∀ c : Dev nD,
      r.2.mem ((c.tc : Thread nD τ).loc main_v4) = (fun _ => best (labOf m c) (featOf m c) : Vec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, h.2 c⟩) (θ_run_and (run_main m ρ) (frame_of m ρ (dats m) (A_eq m) (run_main m ρ)))
  refine ((h.1 c).2 main_v4 (Pipeline.mem_restRefs_of main_v4 (by decide) (by decide))).trans ?_
  unfold Pipeline.afterTail₀
  have e2 : Pipeline.withArrays (cfgs 0).spec c (V0 m c) (fun w => (dats m 0 c).arrAt w (cfgs 0).N) (Proc.devRef .tc main_v2)
      = (dats m 0 c).arrAt 4 cfg0.N :=
    Pipeline.withArrays_arr_shared (cfgs 0).spec c (V0 m c) (fun w => (dats m 0 c).arrAt w (cfgs 0).N)
      (Pipeline.Dat.arrAt_sharedIn (dats m 0 c) shared (V0 m c) (A_eq m c) cfg0.N) 4
  revert e2
  generalize Pipeline.withArrays (cfgs 0).spec c (V0 m c) (fun w => (dats m 0 c).arrAt w (cfgs 0).N) = W
  intro e2
  have e4 : StableHlo.after [hostOps1].flatten W (Proc.devRef .tc main_v4)
      = (shapeCast S_ (extractStridedSlice S1x1 ![0, 0] (W (Proc.devRef .tc main_v2) : Vec Ideal S8x128 .f32) slices_S8x128_S1x1_0_0) shapeCasts_S1x1_S_ : Vec Ideal S_ .f32) := by
    simp only [List.flatten_cons, List.flatten_nil, List.append_nil]
    after_results
    rfl
  rw [e4, e2]
  funext k
  rw [scalar_of_block]
  exact out_at m c (hlab c)

end Cert.KernelIdeal.Hand

end
-- ==== Proof.Ops.lean ====
module

public import Idealize.ShloMosaic.Lib.PlanTiles.StableSort
public import Idealize.ShloMosaic.Lib.Routing.OpsOne
public import Idealize.ShloMosaic.Lib.Routing.OpsOrder
public import Idealize.ShloMosaic.Lib.Routing.OpsSet
public import Idealize.ShloMosaic.Lib.Pointwise
public import proofs.«01_k».proof.Proof.Row

@[expose] public section

/-! The reference's host operations that no reading tactic opens, each read at one element: a sort along the rows, a
row by row lookup, a scatter on the diagonal, a scatter that keeps the smallest, and a running sum along the rows. -/

namespace Cert.Ops

open Idealize.ShloMosaic Idealize.ShloMosaic.Pointwise

/-! ## Sorting a row -/

section Sorting
variable {n : ℕ} {α : Type} [LinearOrder α]

/-- How many positions have a larger key: a number that falls as the key rises. -/
def above (key : Fin n → α) (k : Fin n) : ℕ := (Finset.univ.filter fun k' => key k < key k').card

/-- Fewer positions lie above the larger of two keys. -/
theorem above_lt_iff (key : Fin n → α) (a b : Fin n) : above key b < above key a ↔ key a < key b := by
  have hmono : ∀ x y : Fin n, key x ≤ key y → above key y ≤ above key x := by
    intro x y h
    refine Finset.card_le_card fun k hk => ?_
    simp only [Finset.mem_filter, Finset.mem_univ, true_and] at hk ⊢
    exact h.trans_lt hk
  constructor
  · intro h
    by_contra hc
    exact absurd (hmono b a (not_lt.mp hc)) (by omega)
  · intro h
    refine Finset.card_lt_card ((Finset.ssubset_iff_of_subset ?_).mpr ⟨b, ?_, ?_⟩)
    · intro k hk
      simp only [Finset.mem_filter, Finset.mem_univ, true_and] at hk ⊢
      exact h.trans hk
    · simpa using h
    · simp

/-- A stable sort by `key` puts a position before another exactly in the order "smaller key, then smaller position". -/
theorem sortedFrom_lt (key : Fin n → α) (R : Fin n → Fin n → Bool) (hR : ∀ a b, R a b = decide (key a < key b))
    (p p' : Fin n) (h : p < p') :
    key (sortedFrom R p) < key (sortedFrom R p') ∨ (key (sortedFrom R p) = key (sortedFrom R p') ∧ sortedFrom R p < sortedFrom R p') := by
  have hRG : R = fun a b => decide (above key b < above key a) := by
    funext a b; rw [hR]; exact decide_eq_decide.mpr (above_lt_iff key a b).symm
  have hpw := PlanTiles.pairwise_stableSort_lex (fun k => above key k) (· < ·) (List.finRange n) (List.pairwise_lt_finRange n)
  rw [← hRG] at hpw
  have hget := List.pairwise_iff_get.mp hpw (p.cast (length_sortPositions n R).symm) (p'.cast (length_sortPositions n R).symm)
    (Fin.lt_def.mpr (Fin.lt_def.mp h))
  change PlanTiles.Lex _ _ (sortedFrom R p) (sortedFrom R p') at hget
  rcases hget with g | ⟨g, l⟩
  · exact Or.inl ((above_lt_iff key _ _).mp g)
  · refine Or.inr ⟨?_, l⟩
    change above key _ = above key _ at g
    rcases lt_trichotomy (key (sortedFrom R p)) (key (sortedFrom R p')) with q | q | q
    · exact absurd ((above_lt_iff key _ _).mpr q) (by omega)
    · exact q
    · exact absurd ((above_lt_iff key _ _).mpr q) (by omega)

/-- The sort read from its end: the first place has the largest key, and among equal keys the largest position. -/
theorem ranks_of_sort {N : ℕ} (s : Fin N → α) (R : Fin N → Fin N → Bool) (hR : ∀ a b, R a b = decide (s a < s b)) :
    Row.Ranks s fun p => sortedFrom R p.rev where
  bij := ⟨fun a b h => Fin.rev_injective (sortedFrom_injective R h), fun j => by
    obtain ⟨k, hk⟩ := sortedFrom_surjective R j
    exact ⟨k.rev, by simpa using hk⟩⟩
  mono p p' h := by
    rcases sortedFrom_lt s R hR p'.rev p.rev (Fin.rev_lt_rev.mpr h) with g | ⟨g, l⟩
    · exact Or.inl g
    · exact Or.inr ⟨g.symm, l⟩

end Sorting

/-- The second result of a two operand sort along the rows, at one element. -/
theorem sort2_snd {α β : Type} {A N : ℕ} (cmp : α × β → α × β → BitVec 1) (x : (⟨2, ![A, N]⟩ : Shape).Idx → α)
    (y : (⟨2, ![A, N]⟩ : Shape).Idx → β) (i : Fin A) (p : Fin N) :
    (Host.sort2 ⟨2, ![A, N]⟩ 1 cmp x y).2 (ix2 i p)
      = y (ix2 i (sortedFrom (fun k k' => cmp (x (ix2 i k), y (ix2 i k)) (x (ix2 i k'), y (ix2 i k')) == 1#1) p)) := by
  have hal : ∀ k : Fin N, (ix2 i p : (⟨2, ![A, N]⟩ : Shape).Idx).along (1 : Fin 2) k = ix2 i k := by
    intro k
    funext a
    match a with
    | ⟨0, _⟩ => rfl
    | ⟨1, _⟩ => rfl
  unfold Host.sort2
  rw [dif_pos (show 1 < (⟨2, ![A, N]⟩ : Shape).rank from Nat.lt_succ_self 1)]
  have hg : ∀ g : Fin N → (⟨2, ![A, N]⟩ : Shape).Idx, g = (fun k => ix2 i k) →
      y (g (sortedFrom (fun k k' => cmp (x (g k), y (g k)) (x (g k'), y (g k')) == 1#1) p))
        = y (ix2 i (sortedFrom (fun k k' => cmp (x (ix2 i k), y (ix2 i k)) (x (ix2 i k'), y (ix2 i k')) == 1#1) p)) := by
    rintro _ rfl
    rfl
  exact hg (fun k => (ix2 i p : (⟨2, ![A, N]⟩ : Shape).Idx).along (1 : Fin 2) k) (funext hal)

/-! ## Row by row lookups -/

/-- A word below half the range, read signed and clamped below `C`, is itself. -/
theorem clamp_word {k C : ℕ} (hk : k < C) (hC : C ≤ 2 ^ 31) : min (BitVec.ofNat 32 k).toInt.toNat (C - 1) = k := by
  have h1 : (BitVec.ofNat 32 k).toInt = (k : ℤ) := by
    rw [BitVec.toInt_eq_toNat_of_lt (by rw [BitVec.toNat_ofNat]; omega), BitVec.toNat_ofNat]
    have : k % 2 ^ 32 = k := Nat.mod_eq_of_lt (by omega)
    omega
  rw [h1, Int.toNat_natCast]
  omega

/-- The dimension numbers of a lookup along the rows: row `i` of the result reads row `i` of the operand. -/
abbrev takeColsDims (N C B : ℕ)
    (wf : GatherDims.WF ⟨2, ![N, C]⟩ ⟨3, ![N, B, 1]⟩ ⟨2, ![N, B]⟩ [] [1] [0] [1] [0] 2 ![1, 1]) :
    GatherDims ⟨2, ![N, C]⟩ ⟨3, ![N, B, 1]⟩ ⟨2, ![N, B]⟩ where
  offsetDims := []
  collapsedSliceDims := [1]
  operandBatchingDims := [0]
  startIndicesBatchingDims := [0]
  startIndexMap := [1]
  indexVectorDim := 2
  sliceSizes := ![1, 1]
  wf := wf

/-- A lookup along the rows, at one element whose index word is `k`: the operand's entry `k` of that row. -/
theorem gather_cols {α : Type} {N C B : ℕ}
    (wf : GatherDims.WF ⟨2, ![N, C]⟩ ⟨3, ![N, B, 1]⟩ ⟨2, ![N, B]⟩ [] [1] [0] [1] [0] 2 ![1, 1])
    (x : (⟨2, ![N, C]⟩ : Shape).Idx → α) (idx : IVec ⟨3, ![N, B, 1]⟩ 32) (i : Fin N) (j : Fin B) (k : Fin C) (hC : C ≤ 2 ^ 31)
    (hidx : idx (ix3 i j 0) = BitVec.ofNat 32 k.val) :
    Host.gather (takeColsDims N C B wf) x idx (ix2 i j) = x (ix2 i k) := by
  unfold Host.gather
  refine congrArg x (funext fun a => Fin.ext ?_)
  show (takeColsDims N C B wf).start (ix2 i j) idx a + (takeColsDims N C B wf).batchCoord (ix2 i j) a
      + (takeColsDims N C B wf).offCoord (ix2 i j) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (takeColsDims N C B wf).startIndexMap from List.mem_singleton.mpr rfl)]
    have hsi : (takeColsDims N C B wf).siIdx (ix2 i j) ⟨List.idxOf (1 : Fin 2) (takeColsDims N C B wf).startIndexMap,
        List.idxOf_lt_length_iff.2 (List.mem_singleton.mpr rfl)⟩ = ix3 i j 0 := by
      funext b; refine Fin.ext ?_
      match b with
      | ⟨0, _⟩ => rfl
      | ⟨1, _⟩ => rfl
      | ⟨2, _⟩ => rfl
    rw [hsi, hidx]
    exact clamp_word k.isLt hC

/-- A lookup of a table of words in a vector, at one element whose index word is `k`. -/
theorem gather_vec {α : Type} {N R C : ℕ}
    (wf : GatherDims.WF ⟨1, ![N]⟩ ⟨3, ![R, C, 1]⟩ ⟨2, ![R, C]⟩ [] [0] [] [0] [] 2 ![1])
    (x : (⟨1, ![N]⟩ : Shape).Idx → α) (idx : IVec ⟨3, ![R, C, 1]⟩ 32) (i : Fin R) (j : Fin C) (k : Fin N) (hN : N ≤ 2 ^ 31)
    (hidx : idx (ix3 i j 0) = BitVec.ofNat 32 k.val) :
    Host.gather (ValueIdx.takeDims N R C wf) x idx (ix2 i j) = x (ix1 k) := by
  have hpos : 0 < N := Nat.lt_of_le_of_lt (Nat.zero_le _) k.isLt
  rw [ValueIdx.gather_take_apply hpos]
  refine congrArg x (funext fun a => Fin.ext ?_)
  match a with
  | ⟨0, _⟩ =>
    have ht : (ValueIdx.takeIdx (ix2 i j) : (⟨3, ![R, C, 1]⟩ : Shape).Idx) = ix3 i j 0 := by
      funext b
      match b with
      | ⟨0, _⟩ => rfl
      | ⟨1, _⟩ => rfl
      | ⟨2, _⟩ => rfl
    show min (idx (ValueIdx.takeIdx (ix2 i j))).toInt.toNat (N - 1) = k.val
    rw [ht, hidx]
    exact clamp_word k.isLt hN

/-! ## Scatters -/

/-- The dimension numbers of a scatter of `A` scalars into a matrix, a pair of index words each. -/
abbrev pairDims (R C A : ℕ) (wf : ScatterDims.WF ⟨2, ![R, C]⟩ ⟨2, ![A, 2]⟩ ⟨1, ![A]⟩ [] [0, 1] [0, 1] 1) :
    ScatterDims ⟨2, ![R, C]⟩ ⟨2, ![A, 2]⟩ ⟨1, ![A]⟩ where
  updateWindowDims := []
  insertedWindowDims := [0, 1]
  scatterDimsToOperandDims := [0, 1]
  indexVectorDim := 1
  wf := wf

/-- Where the update number `a` lands. -/
theorem pair_lands {R C A : ℕ} (wf : ScatterDims.WF ⟨2, ![R, C]⟩ ⟨2, ![A, 2]⟩ ⟨1, ![A]⟩ [] [0, 1] [0, 1] 1)
    (idx : IVec ⟨2, ![A, 2]⟩ 32) (a : Fin A) (r : Fin R) (c : Fin C) :
    (pairDims R C A wf).resultIdx? (ix1 a) idx = some (ix2 r c)
      ↔ (idx (ix2 a 0)).toInt = r.val ∧ (idx (ix2 a 1)).toInt = c.val := by
  have hm : ∀ q : Fin 2, q ∈ (pairDims R C A wf).scatterDimsToOperandDims := fun q => by
    show q ∈ ([0, 1] : List (Fin 2)); fin_cases q <;> simp
  have hwin : ∀ q : Fin 2, (pairDims R C A wf).window (ix1 a) q = 0 := fun q => by
    unfold ScatterDims.window
    rw [dif_neg fun h => (of_decide_eq_true (List.mem_filter.1 h).2) (by show q ∈ ([0, 1] : List (Fin 2)); fin_cases q <;> simp)]
  have hsi : ∀ q : Fin 2, (pairDims R C A wf).siIdx (ix1 a) ⟨(pairDims R C A wf).scatterDimsToOperandDims.idxOf q,
      List.idxOf_lt_length_iff.2 (hm q)⟩ = ix2 a q := by
    intro q
    funext b
    apply Fin.ext
    fin_cases q <;>
    match b with
    | ⟨0, _⟩ => rfl
    | ⟨1, _⟩ => rfl
  have hst : ∀ q : Fin 2, (pairDims R C A wf).start (ix1 a) idx q = (idx (ix2 a q)).toInt := fun q => by
    unfold ScatterDims.start
    rw [dif_pos (hm q), hsi]
  rw [ix2_eq_valueIdx r c]
  refine (Routing.resultIdx?_ix2 (pairDims R C A wf) (ix1 a) idx r c).trans ?_
  rw [hst, hst, hwin, hwin]
  simp

/-- Writing one value on the diagonal of a square matrix. -/
theorem scatter_diag {α : Type} {N : ℕ} (hN : N ≤ 2 ^ 31)
    (wf : ScatterDims.WF ⟨2, ![N, N]⟩ ⟨2, ![N, 2]⟩ ⟨1, ![N]⟩ [] [0, 1] [0, 1] 1)
    (x0 : (⟨2, ![N, N]⟩ : Shape).Idx → α) (idx : IVec ⟨2, ![N, 2]⟩ 32) (upd : (⟨1, ![N]⟩ : Shape).Idx → α) (v : α)
    (hidx : ∀ (a : Fin N) (q : Fin 2), idx (ix2 a q) = BitVec.ofNat 32 a.val) (hupd : ∀ a : Fin N, upd (ix1 a) = v)
    (i j : Fin N) :
    Host.scatter (pairDims N N N wf) (fun _ b => b) x0 idx upd (ix2 i j) = if i = j then v else x0 (ix2 i j) := by
  have hint : ∀ a : Fin N, (BitVec.ofNat 32 a.val).toInt = (a.val : ℤ) := fun a => by
    have := a.isLt
    rw [BitVec.toInt_eq_toNat_of_lt (by rw [BitVec.toNat_ofNat]; omega), BitVec.toNat_ofNat]
    have : a.val % 2 ^ 32 = a.val := Nat.mod_eq_of_lt (by omega)
    omega
  by_cases h : i = j
  · subst h
    rw [if_pos rfl]
    refine Routing.scatter_set_hit _ x0 idx upd _ v (fun k _ => ?_) (ix1 i) ?_
    · obtain ⟨a, rfl⟩ : ∃ a : Fin N, k = ix1 a := ⟨k 0, eq_ix1 k⟩
      exact hupd _
    · rw [pair_lands, hidx, hidx, hint]; exact ⟨rfl, rfl⟩
  · rw [if_neg h]
    refine Routing.scatter_set_miss _ x0 idx upd _ fun k hk => h ?_
    obtain ⟨a, rfl⟩ : ∃ a : Fin N, k = ix1 a := ⟨k 0, eq_ix1 k⟩
    rw [pair_lands, hidx, hidx, hint] at hk
    exact Fin.ext (by omega)

/-- A fold that keeps the smallest of the marked values: it is at most the start and every marked value, and it is one
    of them. -/
theorem foldl_min {ι : Type} (l : List ι) (hit : ι → Prop) [DecidablePred hit] (v : ι → ℕ) (x : ℕ) :
    l.foldl (fun a n => if hit n then min a (v n) else a) x ≤ x
      ∧ (∀ n ∈ l, hit n → l.foldl (fun a n => if hit n then min a (v n) else a) x ≤ v n)
      ∧ (l.foldl (fun a n => if hit n then min a (v n) else a) x = x
          ∨ ∃ n ∈ l, hit n ∧ l.foldl (fun a n => if hit n then min a (v n) else a) x = v n) := by
  induction l generalizing x with
  | nil => simp
  | cons n l ih =>
    rw [List.foldl_cons]
    obtain ⟨h1, h2, h3⟩ := ih (if hit n then min x (v n) else x)
    refine ⟨h1.trans ?_, ?_, ?_⟩
    · split
      · exact min_le_left _ _
      · exact le_rfl
    · intro k hk hh
      rcases List.mem_cons.mp hk with rfl | hk'
      · refine h1.trans ?_
        rw [if_pos hh]; exact min_le_right _ _
      · exact h2 k hk' hh
    · rcases h3 with h3 | ⟨k, hk, hh, e⟩
      · rw [h3]
        by_cases hn : hit n
        · rw [if_pos hn]
          rcases min_choice x (v n) with g | g
          · exact Or.inl g
          · exact Or.inr ⟨n, List.mem_cons_self, hn, g⟩
        · rw [if_neg hn]; exact Or.inl rfl
      · exact Or.inr ⟨k, List.mem_cons_of_mem _ hk, hh, e⟩

/-- The smaller of two small words is the word of the smaller. -/
theorem minsi_ofNat {a b : ℕ} (ha : a < 2 ^ 31) (hb : b < 2 ^ 31) :
    IntOp.minsi (BitVec.ofNat 32 a) (BitVec.ofNat 32 b) = BitVec.ofNat 32 (min a b) := by
  have hint : ∀ n : ℕ, n < 2 ^ 31 → (BitVec.ofNat 32 n).toInt = (n : ℤ) := fun n hn => by
    rw [BitVec.toInt_eq_toNat_of_lt (by rw [BitVec.toNat_ofNat]; omega), BitVec.toNat_ofNat]
    have : n % 2 ^ 32 = n := Nat.mod_eq_of_lt (by omega)
    omega
  unfold IntOp.minsi
  simp only [BitVec.slt, hint a ha, hint b hb, decide_eq_true_eq]
  by_cases h : a < b
  · rw [if_pos (by exact_mod_cast h), min_eq_left h.le]
  · rw [if_neg (by exact_mod_cast h), min_eq_right (by omega)]

/-- The same fold over words. -/
theorem foldl_minsi {ι : Type} (l : List ι) (hit : ι → Prop) [DecidablePred hit] (u : ι → BitVec 32) (v : ι → ℕ)
    (hu : ∀ n, u n = BitVec.ofNat 32 (v n)) (hv : ∀ n, v n < 2 ^ 31) (w : BitVec 32) (x : ℕ) (hw : w = BitVec.ofNat 32 x) (hx : x < 2 ^ 31) :
    l.foldl (fun a n => if hit n then IntOp.minsi a (u n) else a) w
      = BitVec.ofNat 32 (l.foldl (fun a n => if hit n then min a (v n) else a) x) := by
  induction l generalizing w x with
  | nil => exact hw
  | cons n l ih =>
    rw [List.foldl_cons, List.foldl_cons]
    by_cases h : hit n
    · rw [if_pos h, if_pos h]
      exact ih _ _ (by rw [hw, hu, minsi_ofNat hx (hv n)]) (lt_of_le_of_lt (min_le_left _ _) hx)
    · rw [if_neg h, if_neg h]
      exact ih _ _ hw hx

/-- The dimension numbers of a scatter of an `A` by `B` table of scalars into a matrix, a pair of index words each. -/
abbrev tableDims (R C A B : ℕ) (wf : ScatterDims.WF ⟨2, ![R, C]⟩ ⟨3, ![A, B, 2]⟩ ⟨2, ![A, B]⟩ [] [0, 1] [0, 1] 2) :
    ScatterDims ⟨2, ![R, C]⟩ ⟨3, ![A, B, 2]⟩ ⟨2, ![A, B]⟩ where
  updateWindowDims := []
  insertedWindowDims := [0, 1]
  scatterDimsToOperandDims := [0, 1]
  indexVectorDim := 2
  wf := wf

/-- A scatter that keeps the smallest, at one element: a number no larger than the operand's entry and every update
    that lands there, and equal to one of them. -/
theorem scatter_least {R C A B : ℕ}
    (wf : ScatterDims.WF ⟨2, ![R, C]⟩ ⟨3, ![A, B, 2]⟩ ⟨2, ![A, B]⟩ [] [0, 1] [0, 1] 2)
    (x0 : IVec ⟨2, ![R, C]⟩ 32) (idx : IVec ⟨3, ![A, B, 2]⟩ 32) (upd : IVec ⟨2, ![A, B]⟩ 32) (r : Fin R) (c : Fin C)
    (x : ℕ) (hx0 : x0 (ix2 r c) = BitVec.ofNat 32 x) (hx : x < 2 ^ 31)
    (v : Fin A → Fin B → ℕ) (hupd : ∀ a b, upd (ix2 a b) = BitVec.ofNat 32 (v a b)) (hv : ∀ a b, v a b < 2 ^ 31) :
    ∃ m : ℕ, Host.scatter (tableDims R C A B wf) IntOp.minsi x0 idx upd (ix2 r c) = BitVec.ofNat 32 m ∧ m ≤ x
      ∧ (∀ a b, (idx (ix3 a b 0)).toInt = r.val → (idx (ix3 a b 1)).toInt = c.val → m ≤ v a b)
      ∧ (m = x ∨ ∃ a b, (idx (ix3 a b 0)).toInt = r.val ∧ (idx (ix3 a b 1)).toInt = c.val ∧ m = v a b) := by
  classical
  have hl : ∀ k : (⟨2, ![A, B]⟩ : Shape).Idx, (tableDims R C A B wf).resultIdx? k idx = some (ix2 r c)
      ↔ (idx (ix3 (k 0) (k 1) 0)).toInt = r.val ∧ (idx (ix3 (k 0) (k 1) 1)).toInt = c.val := by
    intro k
    obtain ⟨a, b, rfl⟩ : ∃ (a : Fin A) (b : Fin B), k = ix2 a b := ⟨k 0, k 1, eq_ix2 k⟩
    rw [ix2_eq_valueIdx a b, ix2_eq_valueIdx r c]
    refine (Routing.scatter_lands2 (tableDims R C A B wf) rfl rfl rfl idx a b r c).trans ?_
    rw [← ix3_eq_valueIdx, ← ix3_eq_valueIdx]
    exact Iff.rfl
  rw [Routing.scatter_at]
  have hfold := foldl_minsi (List.finRange (⟨2, ![A, B]⟩ : Shape).numel)
    (fun n => (tableDims R C A B wf).resultIdx? ((⟨2, ![A, B]⟩ : Shape).rowMajor.symm n) idx = some (ix2 r c))
    (fun n => upd ((⟨2, ![A, B]⟩ : Shape).rowMajor.symm n))
    (fun n => v ((⟨2, ![A, B]⟩ : Shape).rowMajor.symm n 0) ((⟨2, ![A, B]⟩ : Shape).rowMajor.symm n 1))
    (fun n => (congrArg upd (eq_ix2 _)).trans (hupd _ _)) (fun n => hv _ _) (x0 (ix2 r c)) x hx0 hx
  obtain ⟨h1, h2, h3⟩ := foldl_min (List.finRange (⟨2, ![A, B]⟩ : Shape).numel)
    (fun n => (tableDims R C A B wf).resultIdx? ((⟨2, ![A, B]⟩ : Shape).rowMajor.symm n) idx = some (ix2 r c))
    (fun n => v ((⟨2, ![A, B]⟩ : Shape).rowMajor.symm n 0) ((⟨2, ![A, B]⟩ : Shape).rowMajor.symm n 1)) x
  refine ⟨_, ?_, h1, fun a b ha hb => ?_, ?_⟩
  · rw [← hfold]
  · have := h2 ((⟨2, ![A, B]⟩ : Shape).rowMajor (ix2 a b)) (List.mem_finRange _) (by
      rw [Equiv.symm_apply_apply, hl]; exact ⟨ha, hb⟩)
    rw [Equiv.symm_apply_apply] at this
    exact this
  · rcases h3 with h3 | ⟨n, -, hn, e⟩
    · exact Or.inl h3
    · exact Or.inr ⟨_, _, ((hl _).mp hn).1, ((hl _).mp hn).2, e⟩

/-! ## Running sums -/

/-- The position of a window one row high, from its number. -/
theorem symm_row {N : ℕ} (n : Fin (⟨2, ![1, N]⟩ : Shape).numel) (hn : n.val < N) :
    (⟨2, ![1, N]⟩ : Shape).rowMajor.symm n = ix2 (0 : Fin 1) (⟨n.val, hn⟩ : Fin N) :=
  ((⟨2, ![1, N]⟩ : Shape).rowMajor.symm_apply_eq).2 (Fin.ext (by
    rw [Shape.rowMajor_val_two]
    show n.val = 0 * N + n.val
    omega))

/-- A list sum over the first naturals is the sum over them. -/
theorem sum_range_list (f : ℕ → ℕ) (n : ℕ) : ((List.range n).map f).sum = ∑ i ∈ Finset.range n, f i := by
  induction n with
  | zero => simp
  | succ n ih => rw [List.range_succ, List.map_append, List.sum_append, ih, Finset.sum_range_succ]; simp

/-- A running sum along the rows of a matrix: where row `r` holds the words of `f`, entry `j` of the result holds the
    word of `f 0 + … + f j`. -/
theorem cumsum_row {A N M : ℕ} (hN : M + 1 = N) (x : IVec ⟨2, ![A, N]⟩ 32) (r : Fin A) (f : ℕ → ℕ)
    (hx : ∀ i : Fin N, x (ix2 r i) = BitVec.ofNat 32 (f i.val)) (init : IVec ⟨0, ![]⟩ 32) (hinit : ∀ q, init q = 0#32)
    (h : (⟨2, ![A, N]⟩ : Shape).ReduceWindows (![1, N] : Fin 2 → ℕ) ![1, 1] ![0, M] ![0, 0] ⟨2, ![A, N]⟩)
    (hu : 0 < (⟨0, ![]⟩ : Shape).numel) (j : Fin N) :
    Host.reduceWindow IntOp.addi ![1, N] ![1, 1] ![0, M] ![0, 0] x init h hu (ix2 r j)
      = BitVec.ofNat 32 (∑ i ∈ Finset.range (j.val + 1), f i) := by
  subst hN
  have hnum : (⟨2, ![1, M + 1]⟩ : Shape).numel = M + 1 := Routing.numel2 (M + 1)
  have hj := j.isLt
  have hr := r.isLt
  unfold Host.reduceWindow
  refine (Routing.foldl_addi_ofNat _ _ (fun n => if M ≤ j.val + n.val then f (j.val + n.val - M) else 0) (fun n _ => ?_) _ 0 (hinit _)).trans ?_
  · have hn : n.val < M + 1 := (n.cast hnum).isLt
    have hw0 : ((⟨2, ![1, M + 1]⟩ : Shape).rowMajor.symm n 0).val = 0 := by rw [symm_row n hn]; rfl
    have hw1 : ((⟨2, ![1, M + 1]⟩ : Shape).rowMajor.symm n 1).val = n.val := by rw [symm_row n hn]; rfl
    dsimp only
    by_cases hle : M ≤ j.val + n.val
    · rw [if_pos hle, dif_pos (fun a => by
        match a with
        | ⟨0, _⟩ =>
          show 0 ≤ r.val * 1 + ((⟨2, ![1, M + 1]⟩ : Shape).rowMajor.symm n 0).val
            ∧ r.val * 1 + ((⟨2, ![1, M + 1]⟩ : Shape).rowMajor.symm n 0).val - 0 < A
          rw [hw0]; omega
        | ⟨1, _⟩ =>
          show M ≤ j.val * 1 + ((⟨2, ![1, M + 1]⟩ : Shape).rowMajor.symm n 1).val
            ∧ j.val * 1 + ((⟨2, ![1, M + 1]⟩ : Shape).rowMajor.symm n 1).val - M < M + 1
          rw [hw1]; omega)]
      refine (congrArg x (funext fun a => Fin.ext ?_)).trans (hx ⟨j.val + n.val - M, by omega⟩)
      match a with
      | ⟨0, _⟩ =>
        show r.val * 1 + ((⟨2, ![1, M + 1]⟩ : Shape).rowMajor.symm n 0).val - 0 = r.val
        rw [hw0]; omega
      | ⟨1, _⟩ =>
        show j.val * 1 + ((⟨2, ![1, M + 1]⟩ : Shape).rowMajor.symm n 1).val - M = j.val + n.val - M
        rw [hw1]; omega
    · rw [if_neg hle, dif_neg (fun hin => hle (by
        have h1 := (hin 1).1
        change M ≤ j.val * 1 + ((⟨2, ![1, M + 1]⟩ : Shape).rowMajor.symm n 1).val at h1
        rw [hw1] at h1; omega))]
      exact hinit _
  · rw [Nat.zero_add]
    congr 1
    refine Eq.trans ?_ (sum_range_list f (j.val + 1))
    rw [Routing.map_finRange_val _ (fun w => if M ≤ j.val + w then f (j.val + w - M) else 0), hnum]
    exact Routing.sum_window f M j.val (by omega)

end Cert.Ops

end
-- ==== Proof.ReferenceIdeal.Sort.lean ====
/-
The reference's scores and its ranking of each row, read at one entry over the extended reals.
-/
module

public import proofs.«01_k».proof.Proof.Gen.ReferenceIdeal.Run
public import proofs.«01_k».proof.Proof.Ops
public import proofs.«01_k».proof.Proof.Spec
public import Idealize.ShloMosaic.Lib.ReduceAll

@[expose] public section

set_option maxRecDepth 16384

noncomputable section

namespace Cert.ReferenceIdeal.Hand

open Cert.ReferenceIdeal.Gen Cert.ReferenceIdeal.Value
open Idealize.ShloMosaic Idealize.ShloMosaic.Pointwise Idealize.ShloMosaic.WordCmp

/-! ## Words -/

/-- A small word is not negative, so wrapping leaves it. -/
theorem wrap_word {a : ℕ} (ha : a < 2 ^ 31) (w : BitVec 32) :
    Scalar.select (IntOp.cmpi .slt (BitVec.ofNat 32 a) 0#32) w (BitVec.ofNat 32 a) = BitVec.ofNat 32 a := by
  have : IntOp.cmpi .slt (BitVec.ofNat 32 a) 0#32 = 0#1 := by
    have h := cmpi_slt_ofNat (w := 32) (a := a) (b := 0) ha (by norm_num)
    simpa using h
  rw [this, select_zero]

/-- A lookup along the rows whose index words are all in range never takes the fill. -/
theorem take_masked {α : Type} {N C B : ℕ}
    (wf : GatherDims.WF ⟨2, ![N, C]⟩ ⟨3, ![N, B, 1]⟩ ⟨2, ![N, B]⟩ [] [1] [0] [1] [0] 2 ![1, 1])
    (x : (⟨2, ![N, C]⟩ : Shape).Idx → α) (idx lo hi : IVec ⟨3, ![N, B, 1]⟩ 32) (init : IVec ⟨0, ![]⟩ 1)
    (hred : (⟨3, ![N, B, 1]⟩ : Shape).ReducesTo [2] ⟨2, ![N, B]⟩) (hu : 0 < (⟨0, ![]⟩ : Shape).numel)
    (fill : (⟨2, ![N, B]⟩ : Shape).Idx → α) (K : Fin N → Fin B → Fin C) (hC : C ≤ 2 ^ 31)
    (hidx : ∀ i j, idx (ix3 i j 0) = BitVec.ofNat 32 (K i j).val)
    (hlo : ∀ k, lo k = 0#32) (hhi : ∀ k, hi k = BitVec.ofNat 32 (C - 1)) (hinit : ∀ k, init k = 1#1) (i : Fin N) (j : Fin B) :
    select (Host.reduce IntOp.andi (andi (cmpi .sge idx lo) (cmpi .sle idx hi)) init hred hu)
      (Host.gather (Ops.takeColsDims N C B wf) x idx) fill (ix2 i j) = x (ix2 i (K i j)) := by
  have hm : Host.reduce IntOp.andi (andi (cmpi .sge idx lo) (cmpi .sle idx hi)) init hred hu (ix2 i j) = 1#1 := by
    refine Host.reduce_andi_one _ _ _ _ _ (hinit _) fun k => ?_
    obtain ⟨a, b, c, rfl⟩ : ∃ a b c, k = ix3 a b c := ⟨_, _, _, eq_ix3 k⟩
    obtain rfl : c = 0 := Subsingleton.elim _ _
    show IntOp.andi (IntOp.cmpi .sge (idx (ix3 a b 0)) (lo (ix3 a b 0))) (IntOp.cmpi .sle (idx (ix3 a b 0)) (hi (ix3 a b 0))) = 1#1
    have hk := (K a b).isLt
    rw [hidx, hlo, hhi]
    have h1 : IntOp.cmpi .sge (BitVec.ofNat 32 (K a b).val) 0#32 = 1#1 := by
      have h := cmpi_sge_ofNat (w := 32) (a := (K a b).val) (b := 0) (by norm_num; omega) (by norm_num)
      simpa using h
    have h2 : IntOp.cmpi .sle (BitVec.ofNat 32 (K a b).val) (BitVec.ofNat 32 (C - 1)) = 1#1 := by
      have h := cmpi_sle_ofNat (w := 32) (a := (K a b).val) (b := C - 1) (by norm_num; omega) (by norm_num; omega)
      rw [h]
      have : (K a b).val ≤ C - 1 := by omega
      simp [this]
    rw [h1, h2]
    rfl
  show Scalar.select (Host.reduce IntOp.andi (andi (cmpi .sge idx lo) (cmpi .sle idx hi)) init hred hu (ix2 i j))
    (Host.gather (Ops.takeColsDims N C B wf) x idx (ix2 i j)) (fill (ix2 i j)) = _
  rw [hm, select_one]
  exact Ops.gather_cols wf x idx i j (K i j) hC (hidx i j)

/-! ## The scores -/

variable (V0 : Valuation τ sig (Elt Ideal))

/-- The labels. -/
def labOf (j : Fin 4096) : BitVec 32 := (V0 (Proc.devRef .tc main_arg0) : Vec Ideal S4096 .i32) (ix1 j)

/-- The features. -/
def featOf (j : Fin 4096) (k : Fin 1024) : Ideal .f32 := (V0 (Proc.devRef .tc main_arg1) : Vec Ideal S4096x1024 .f32) (ix2 j k)

/-- The positions count up. -/
theorem v2_at (a : Fin 4096) : res_main_v2 V0 (ix1 a) = BitVec.ofNat 32 a.val := by
  pointwise [res_main_v2]

/-- The product of the features with themselves, at one entry. -/
theorem gram_at (x : FVec Ideal S4096x1024 .f32) (i j : Fin 4096) :
    (Host.dotGeneral (F := Ideal) (φ₁ := .f32) (φ₂ := .f32) dot_S4096x1024_S1024x4096_S4096x4096_1_0_0_1_n_n none x (transpose S1024x4096 [1, 0] x transposes_S4096x1024_S1024x4096_1_0) : FVec Ideal S4096x4096 .f32) (ix2 i j)
      = ∑ k : Fin 1024, x (ix2 i k) * x (ix2 j k) := by
  pointwise

/-- A column of wrapped index words, at one entry. -/
theorem col_at (x : Vec Ideal S4096 .i32) (n : BitVec 32) (a : Fin 4096) (q : Fin 1) :
    (broadcastInDim S4096x1 ![0] bcast_S4096_S4096x1_0 (select (cmpi .slt x (broadcastInDim S4096 ![] bcast_S_S4096 (constantI S_ 32 0#32))) (addi x (broadcastInDim S4096 ![] bcast_S_S4096 (constantI S_ 32 n))) x)) (ix2 a q)
      = Scalar.select (IntOp.cmpi .slt (x (ix1 a)) 0#32) (IntOp.addi (x (ix1 a)) n) (x (ix1 a)) := by
  pointwise

/-- Two columns side by side, at one entry. -/
theorem pair_at (x y : Vec Ideal S4096x1 .i32) (a : Fin 4096) :
    concatenate S4096x2 1 [⟨S4096x1, x⟩, ⟨S4096x1, y⟩] concatenates_S4096x1_S4096x1_S4096x2_d1 (ix2 a 0) = x (ix2 a 0)
    ∧ concatenate S4096x2 1 [⟨S4096x1, x⟩, ⟨S4096x1, y⟩] concatenates_S4096x1_S4096x1_S4096x2_d1 (ix2 a 1) = y (ix2 a 0) := by
  constructor <;> pointwise

/-- The reference's scores are the scores of the specification. -/
theorem v17_at (i j : Fin 4096) : res_main_v17 V0 (ix2 i j) = Spec.score (featOf V0) i j := by
  unfold res_main_v17
  refine (Ops.scatter_diag (by norm_num) scatter_S4096x4096_S4096x2_S4096_n_01_01_1_wf _ _ _ (Ideal.ofBits .f32 0xC47A0000#32) ?_ ?_ i j).trans ?_
  · intro a q
    have h2 : q = 0 ∨ q = 1 := by omega
    rcases h2 with rfl | rfl
    · rw [(pair_at _ _ a).1, col_at, v2_at]
      exact wrap_word (by have := a.isLt; omega) _
    · rw [(pair_at _ _ a).2, col_at, v2_at]
      exact wrap_word (by have := a.isLt; omega) _
  · intro a
    pointwise
  · unfold Spec.score
    split
    · rfl
    · exact gram_at _ i j

/-! ## The ranking -/

/-- Smaller by the sort's comparison is smaller. -/
theorem comparator_eq (l r : Ideal .f32 × BitVec 32) :
    (comparator_f32_i32_d1 (F := Ideal) l r == 1#1) = decide ((l.1 : EReal) < r.1) := by
  have hne : ∀ x : Ideal .f32, FloatOps.cmpf (F := Ideal) .une x x = 0#1 := fun x => by
    show BitVec.ofBool (decide _) = _
    simp
  have hz : ∀ x : Ideal .f32, Scalar.select (FloatOps.cmpf (F := Ideal) .oeq x (FloatOps.ofBits .f32 0x00000000#32)) (FloatOps.ofBits .f32 0x00000000#32) x = x := fun x => by
    have e : FloatOps.cmpf (F := Ideal) .oeq x (FloatOps.ofBits .f32 0x00000000#32) = BitVec.ofBool (decide (x = (FloatOps.ofBits .f32 0x00000000#32 : Ideal .f32))) := rfl
    rw [e]
    by_cases h : x = (FloatOps.ofBits .f32 0x00000000#32 : Ideal .f32)
    · simp only [h, decide_true, BitVec.ofBool_true]; rfl
    · simp only [h, decide_false, BitVec.ofBool_false]; rfl
  unfold comparator_f32_i32_d1
  dsimp only
  rw [hne, hne, select_zero, select_zero, hz, hz]
  have e : FloatOps.cmpfTotal (F := Ideal) .lt l.1 r.1 = BitVec.ofBool (decide ((l.1 : EReal) < r.1)) := rfl
  rw [e]
  by_cases h : (l.1 : EReal) < r.1 <;> simp [h]

/-- Row `i`'s entries in ranking order. -/
def order (i p : Fin 4096) : Fin 4096 :=
  sortedFrom (fun k k' => decide (Spec.score (featOf V0) i k < Spec.score (featOf V0) i k')) p.rev

/-- `order` lists a row in ranking order. -/
theorem order_ranks (i : Fin 4096) : Row.Ranks (Spec.score (featOf V0) i) (order V0 i) :=
  Ops.ranks_of_sort (Spec.score (featOf V0) i) _ fun _ _ => rfl

/-- The sorted positions count up along each row. -/
theorem call0_at (i j : Fin 4096) : res_main_call0_v0 V0 (ix2 i j) = BitVec.ofNat 32 j.val := by
  pointwise [res_main_call0_v0]

/-- A row read from its end. -/
theorem rev_at {α : Type} (x : S4096x4096.Idx → α) (i p : Fin 4096) :
    Host.reverse (s := S4096x4096) [1] x (ix2 i p) = x (ix2 i p.rev) := by
  pointwise
  simp

/-- The reference's order of a row is `order`. -/
theorem v19_at (i p : Fin 4096) : res_main_v19 V0 (ix2 i p) = BitVec.ofNat 32 (order V0 i p).val := by
  unfold res_main_v19
  rw [rev_at]
  refine (Ops.sort2_snd _ _ _ i p.rev).trans ?_
  rw [call0_at]
  refine congrArg (BitVec.ofNat 32) (congrArg Fin.val ?_)
  unfold order
  refine congrFun (congrArg sortedFrom ?_) p.rev
  funext k k'
  rw [comparator_eq, v17_at, v17_at]

end Cert.ReferenceIdeal.Hand

end
-- ==== Proof.ReferenceIdeal.First.lean ====
/-
The reference's labels in ranking order and its table of the first place of each label.
-/
module

public import proofs.«01_k».proof.Proof.ReferenceIdeal.Sort

@[expose] public section

set_option maxRecDepth 16384

noncomputable section

namespace Cert.ReferenceIdeal.Hand

open Cert.ReferenceIdeal.Gen Cert.ReferenceIdeal.Value
open Idealize.ShloMosaic Idealize.ShloMosaic.Pointwise Idealize.ShloMosaic.WordCmp

variable (V0 : Valuation τ sig (Elt Ideal))

/-- A small word read signed. -/
theorem toInt_small {a : ℕ} (ha : a < 2 ^ 31) : (BitVec.ofNat 32 a).toInt = (a : ℤ) := by
  rw [BitVec.toInt_eq_toNat_of_lt (by rw [BitVec.toNat_ofNat]; omega), BitVec.toNat_ofNat]
  have : a % 2 ^ 32 = a := Nat.mod_eq_of_lt (by omega)
  omega

/-- A word is the word of its value. -/
theorem lab_eq (j : Fin 4096) : labOf V0 j = BitVec.ofNat 32 (Spec.num (labOf V0) j) := by
  unfold Spec.num
  simp

/-! ## The labels in ranking order -/

/-- A table of wrapped index words, at one entry. -/
theorem wrap3_at (w : IVec S4096x4096 32) (n : BitVec 32) (i p : Fin 4096) :
    (broadcastInDim S4096x4096x1 ![0, 1] bcast_S4096x4096_S4096x4096x1_0_1 (select (cmpi .slt w (broadcastInDim S4096x4096 ![] bcast_S_S4096x4096 (constantI S_ 32 0#32))) (addi w (broadcastInDim S4096x4096 ![] bcast_S_S4096x4096 (constantI S_ 32 n))) w)) (ix3 i p 0)
      = Scalar.select (IntOp.cmpi .slt (w (ix2 i p)) 0#32) (IntOp.addi (w (ix2 i p)) n) (w (ix2 i p)) := by
  pointwise

/-- The label at place `p` of the ranking. -/
theorem v27_at (i p : Fin 4096) : res_main_v27 V0 (ix2 i p) = labOf V0 (order V0 i p) := by
  unfold res_main_v27
  refine Ops.gather_vec gather_S4096_S4096x4096x1_S4096x4096_n_0_n_n_0_2_1_wf _ _ i p (order V0 i p) (by norm_num) ?_
  rw [wrap3_at, v19_at]
  exact wrap_word (by have := (order V0 i p).isLt; omega) _

/-- The same label, as the word of its value. -/
theorem v27_word (i p : Fin 4096) : res_main_v27 V0 (ix2 i p) = BitVec.ofNat 32 (Spec.num (labOf V0) (order V0 i p)) :=
  (v27_at V0 i p).trans (lab_eq V0 _)

/-! ## The first places -/

/-- A row's first place of the label `c`, and `2 ^ 30` for a label out of range. -/
def fp (i : Fin 4096) (c : ℕ) : ℕ := if h : c < 1000 then (res_main_v47 V0 (ix2 i (⟨c, h⟩ : Fin 1000))).toNat else 2 ^ 30

/-- Two tables side by side, at one entry. -/
theorem pair3_at (x y : IVec S4096x4096x1 32) (a b : Fin 4096) :
    concatenate S4096x4096x2 2 [⟨S4096x4096x1, x⟩, ⟨S4096x4096x1, y⟩] concatenates_S4096x4096x1_S4096x4096x1_S4096x4096x2_d2 (ix3 a b 0) = x (ix3 a b 0)
    ∧ concatenate S4096x4096x2 2 [⟨S4096x4096x1, x⟩, ⟨S4096x4096x1, y⟩] concatenates_S4096x4096x1_S4096x4096x1_S4096x4096x2_d2 (ix3 a b 1) = y (ix3 a b 0) := by
  constructor <;> pointwise

/-- The row numbers count up. -/
theorem v30_at (a : Fin 4096) (q : Fin 1) : res_main_v30 V0 (ix2 a q) = BitVec.ofNat 32 a.val := by
  have h : res_main_v30 V0 (ix2 a q) = res_main_v2 V0 (ix1 a) := by
    pointwise [res_main_v30]
  rw [h, v2_at]

/-- The wrapped row numbers spread over the table, at one entry. -/
theorem rows_at (w : IVec S4096x1 32) (n : BitVec 32) (a b : Fin 4096) :
    (broadcastInDim S4096x4096x1 ![0, 1] bcast_S4096x4096_S4096x4096x1_0_1 (broadcastInDim S4096x4096 ![0, 1] bcast_S4096x1_S4096x4096_0_1 (select (cmpi .slt w (broadcastInDim S4096x1 ![] bcast_S_S4096x1 (constantI S_ 32 0#32))) (addi w (broadcastInDim S4096x1 ![] bcast_S_S4096x1 (constantI S_ 32 n))) w))) (ix3 a b 0)
      = Scalar.select (IntOp.cmpi .slt (w (ix2 a 0)) 0#32) (IntOp.addi (w (ix2 a 0)) n) (w (ix2 a 0)) := by
  pointwise

/-- The places count up along each row. -/
theorem v28_at (a b : Fin 4096) :
    (broadcastInDim S4096x4096 ![0, 1] bcast_S1x4096_S4096x4096_0_1 (broadcastInDim S1x4096 ![1] bcast_S4096_S1x4096_1 (res_main_v28 V0))) (ix2 a b)
      = BitVec.ofNat 32 b.val := by
  pointwise [res_main_v28]

/-- The table starts at `2 ^ 30` everywhere. -/
theorem full_at (a : Fin 4096) (c : Fin 1000) :
    (broadcastInDim S4096x1000 ![] bcast_S_S4096x1000 (constantI S_ 32 1073741824#32)) (ix2 a c) = BitVec.ofNat 32 (2 ^ 30) := by
  pointwise
  rfl

variable (hlab : ∀ j, (labOf V0 j).toNat < 1000)
include hlab

/-- Every label is below 1000. -/
theorem num_lt (j : Fin 4096) : Spec.num (labOf V0) j < 1000 := hlab j

/-- An entry of the table is the least place of its label, and `2 ^ 30` for a label that does not occur. -/
theorem v47_least (i : Fin 4096) (c : Fin 1000) :
    ∃ m : ℕ, res_main_v47 V0 (ix2 i c) = BitVec.ofNat 32 m ∧ m ≤ 2 ^ 30
      ∧ (∀ p : Fin 4096, Spec.num (labOf V0) (order V0 i p) = c.val → m ≤ p.val)
      ∧ (m = 2 ^ 30 ∨ ∃ p : Fin 4096, Spec.num (labOf V0) (order V0 i p) = c.val ∧ m = p.val) := by
  unfold res_main_v47
  obtain ⟨m, h1, h2, h3, h4⟩ := Ops.scatter_least scatter_S4096x1000_S4096x4096x2_S4096x4096_n_01_01_2_wf
    (broadcastInDim S4096x1000 ![] bcast_S_S4096x1000 (constantI S_ 32 1073741824#32))
    (concatenate S4096x4096x2 2 [⟨S4096x4096x1, (broadcastInDim S4096x4096x1 ![0, 1] bcast_S4096x4096_S4096x4096x1_0_1 (broadcastInDim S4096x4096 ![0, 1] bcast_S4096x1_S4096x4096_0_1 (select (cmpi .slt (res_main_v30 V0) (broadcastInDim S4096x1 ![] bcast_S_S4096x1 (constantI S_ 32 0#32))) (addi (res_main_v30 V0) (broadcastInDim S4096x1 ![] bcast_S_S4096x1 (constantI S_ 32 4096#32))) (res_main_v30 V0))))⟩, ⟨S4096x4096x1, (broadcastInDim S4096x4096x1 ![0, 1] bcast_S4096x4096_S4096x4096x1_0_1 (select (cmpi .slt (res_main_v27 V0) (broadcastInDim S4096x4096 ![] bcast_S_S4096x4096 (constantI S_ 32 0#32))) (addi (res_main_v27 V0) (broadcastInDim S4096x4096 ![] bcast_S_S4096x4096 (constantI S_ 32 1000#32))) (res_main_v27 V0)))⟩] concatenates_S4096x4096x1_S4096x4096x1_S4096x4096x2_d2)
    (broadcastInDim S4096x4096 ![0, 1] bcast_S1x4096_S4096x4096_0_1 (broadcastInDim S1x4096 ![1] bcast_S4096_S1x4096_1 (res_main_v28 V0)))
    i c (2 ^ 30) (full_at i c) (by norm_num) (fun _ b => b.val) (v28_at V0) (fun _ b => by have := b.isLt; omega)
  have e0 : ∀ a b : Fin 4096, Scalar.select (IntOp.cmpi .slt (res_main_v30 V0 (ix2 a 0)) 0#32) (IntOp.addi (res_main_v30 V0 (ix2 a 0)) 4096#32) (res_main_v30 V0 (ix2 a 0)) = BitVec.ofNat 32 a.val := fun a b => by
    rw [v30_at]
    exact wrap_word (by have := a.isLt; omega) _
  have e1 : ∀ a b : Fin 4096, Scalar.select (IntOp.cmpi .slt (res_main_v27 V0 (ix2 a b)) 0#32) (IntOp.addi (res_main_v27 V0 (ix2 a b)) 1000#32) (res_main_v27 V0 (ix2 a b)) = BitVec.ofNat 32 (Spec.num (labOf V0) (order V0 a b)) := fun a b => by
    rw [v27_word]
    exact wrap_word (by have := num_lt V0 hlab (order V0 a b); omega) _
  have l0 : ∀ a b : Fin 4096, (BitVec.ofNat 32 a.val).toInt = (a.val : ℤ) := fun a b => toInt_small (by have := a.isLt; omega)
  have l1 : ∀ a b : Fin 4096, (BitVec.ofNat 32 (Spec.num (labOf V0) (order V0 a b))).toInt = (Spec.num (labOf V0) (order V0 a b) : ℤ) := fun a b =>
    toInt_small (by have := num_lt V0 hlab (order V0 a b); omega)
  refine ⟨m, h1, h2, fun p hp => ?_, ?_⟩
  · refine h3 i p ?_ ?_
    · rw [(pair3_at _ _ i p).1, rows_at, e0 i p, l0 i p]
    · rw [(pair3_at _ _ i p).2, wrap3_at, e1, l1, hp]
  · rcases h4 with h4 | ⟨a, p, ha, hp, e⟩
    · exact Or.inl h4
    · rw [(pair3_at _ _ a p).1, rows_at, e0 a p, l0 a p] at ha
      rw [(pair3_at _ _ a p).2, wrap3_at, e1, l1] at hp
      obtain rfl : a = i := Fin.ext (by exact_mod_cast ha)
      exact Or.inr ⟨p, by exact_mod_cast hp, e⟩

/-- The table holds the first place of each label. -/
theorem fp_least (i : Fin 4096) (c : ℕ) :
    fp V0 i c ≤ 2 ^ 30
      ∧ (∀ p : Fin 4096, Spec.num (labOf V0) (order V0 i p) = c → fp V0 i c ≤ p.val)
      ∧ (fp V0 i c = 2 ^ 30 ∨ ∃ p : Fin 4096, Spec.num (labOf V0) (order V0 i p) = c ∧ fp V0 i c = p.val) := by
  by_cases hc : c < 1000
  · obtain ⟨m, h1, h2, h3, h4⟩ := v47_least V0 hlab i ⟨c, hc⟩
    have e : fp V0 i c = m := by
      unfold fp
      rw [dif_pos hc, h1, BitVec.toNat_ofNat]
      exact Nat.mod_eq_of_lt (by omega)
    rw [e]
    exact ⟨h2, h3, h4⟩
  · have e : fp V0 i c = 2 ^ 30 := by
      unfold fp
      rw [dif_neg hc]
    rw [e]
    exact ⟨le_rfl, fun p hp => absurd (num_lt V0 hlab (order V0 i p)) (by omega), Or.inl rfl⟩

/-- An entry of the table is the word of the first place. -/
theorem fp_word (i : Fin 4096) (c : Fin 1000) : res_main_v47 V0 (ix2 i c) = BitVec.ofNat 32 (fp V0 i c.val) := by
  unfold fp
  rw [dif_pos c.isLt]
  simp

/-- `fp` gives the first places of the ranking. -/
theorem fp_places (i : Fin 4096) : Row.Places (Spec.num (labOf V0)) (order V0 i) (2 ^ 30) (fp V0 i) where
  here j := by
    obtain ⟨p, rfl⟩ := (order_ranks V0 i).bij.2 j
    obtain ⟨h1, h2, h3⟩ := fp_least V0 hlab i (Spec.num (labOf V0) (order V0 i p))
    rcases h3 with h3 | ⟨p', e, h3⟩
    · exact absurd (h2 p rfl) (by have := p.isLt; omega)
    · exact ⟨p', h3, e⟩
  least p := (fp_least V0 hlab i _).2.1 p rfl
  absent c hc := by
    rcases (fp_least V0 hlab i c).2.2 with h | ⟨p, e, -⟩
    · exact h
    · exact absurd e (hc _)

end Cert.ReferenceIdeal.Hand

end
-- ==== Proof.ReferenceIdeal.Count.lean ====
/-
The reference's running count of the labels kept, and the places it is read at.
-/
module

public import proofs.«01_k».proof.Proof.ReferenceIdeal.First

@[expose] public section

set_option maxRecDepth 16384

noncomputable section

namespace Cert.ReferenceIdeal.Hand

open Cert.ReferenceIdeal.Gen Cert.ReferenceIdeal.Value
open Idealize.ShloMosaic Idealize.ShloMosaic.Pointwise Idealize.ShloMosaic.WordCmp

/-! ## Counting the kept places -/

section
variable {N : ℕ} (lab : Fin N → ℕ) (σ : Fin N → Fin N) (f : ℕ → ℕ)

/-- One for a place that is first of its label, else zero. -/
def keptAt (n : ℕ) : ℕ := if h : n < N then (if Row.Kept lab σ f ⟨n, h⟩ then 1 else 0) else 0

/-- Kept places below `x`, counted one at a time. -/
theorem sum_keptAt (x : ℕ) (hx : x ≤ N) : ∑ n ∈ Finset.range x, keptAt lab σ f n = Row.keptBelow lab σ f x := by
  induction x with
  | zero => simp [Row.keptBelow]
  | succ x ih =>
    rw [Finset.sum_range_succ, ih (by omega)]
    unfold keptAt
    rw [dif_pos (show x < N by omega)]
    by_cases h : Row.Kept lab σ f ⟨x, by omega⟩
    · rw [if_pos h]
      exact (Row.keptBelow_succ ⟨x, by omega⟩ h).symm
    · rw [if_neg h, Nat.add_zero]
      unfold Row.keptBelow
      refine congrArg Finset.card (Finset.filter_congr fun p _ => ⟨fun g => ⟨by omega, g.2⟩, fun g => ⟨?_, g.2⟩⟩)
      have : p.val ≠ x := fun e => h (by
        have : p = ⟨x, by omega⟩ := Fin.ext e
        exact this ▸ g.2)
      omega
end

variable (V0 : Valuation τ sig (Elt Ideal))

/-! ## The index words -/

/-- Wrapped index words over a whole matrix, at one entry. -/
theorem idx4096_at (w : IVec S4096x4096 32) (n : BitVec 32) (i p : Fin 4096) :
    shapeCast S4096x4096x1 (select (cmpi .slt w (broadcastInDim S4096x4096 ![] bcast_S_S4096x4096 (constantI S_ 32 0#32))) (addi w (broadcastInDim S4096x4096 ![] bcast_S_S4096x4096 (constantI S_ 32 n))) w) shapeCasts_S4096x4096_S4096x4096x1 (ix3 i p 0)
      = Scalar.select (IntOp.cmpi .slt (w (ix2 i p)) 0#32) (IntOp.addi (w (ix2 i p)) n) (w (ix2 i p)) := by
  pointwise

/-- Wrapped index words in one column, at one entry. -/
theorem idx1_at (w : IVec S4096x1 32) (n : BitVec 32) (i : Fin 4096) (p : Fin 1) :
    shapeCast S4096x1x1 (select (cmpi .slt w (broadcastInDim S4096x1 ![] bcast_S_S4096x1 (constantI S_ 32 0#32))) (addi w (broadcastInDim S4096x1 ![] bcast_S_S4096x1 (constantI S_ 32 n))) w) shapeCasts_S4096x1_S4096x1x1 (ix3 i p 0)
      = Scalar.select (IntOp.cmpi .slt (w (ix2 i p)) 0#32) (IntOp.addi (w (ix2 i p)) n) (w (ix2 i p)) := by
  obtain rfl : p = 0 := Subsingleton.elim _ _
  pointwise

/-- Wrapped index words in twenty columns, at one entry. -/
theorem idx20_at (w : IVec S4096x20 32) (n : BitVec 32) (i : Fin 4096) (t : Fin 20) :
    shapeCast S4096x20x1 (select (cmpi .slt w (broadcastInDim S4096x20 ![] bcast_S_S4096x20 (constantI S_ 32 0#32))) (addi w (broadcastInDim S4096x20 ![] bcast_S_S4096x20 (constantI S_ 32 n))) w) shapeCasts_S4096x20_S4096x20x1 (ix3 i t 0)
      = Scalar.select (IntOp.cmpi .slt (w (ix2 i t)) 0#32) (IntOp.addi (w (ix2 i t)) n) (w (ix2 i t)) := by
  pointwise

variable (hlab : ∀ j, (labOf V0 j).toNat < 1000)
include hlab

/-- The index word of the lookup at place `p` is the label there. -/
theorem call2_at (i p : Fin 4096) : res_main_call2_v5 V0 (ix3 i p 0) = BitVec.ofNat 32 (Spec.num (labOf V0) (order V0 i p)) := by
  unfold res_main_call2_v5
  refine (idx4096_at _ _ i p).trans ?_
  rw [v27_word]
  exact wrap_word (by have := num_lt V0 hlab (order V0 i p); omega) _

/-- An entry's own first place is a place. -/
theorem fp_lt (i j : Fin 4096) : fp V0 i (Spec.num (labOf V0) j) < 4096 := by
  obtain ⟨p, h, -⟩ := (fp_places V0 hlab i).here j
  rw [h]
  exact p.isLt

/-- A first place is a small number. -/
theorem fp_small (i : Fin 4096) (c : ℕ) : fp V0 i c < 2 ^ 31 := by
  have := (fp_least V0 hlab i c).1
  omega

/-- A row's kept labels below place `x`. -/
abbrev kept (i : Fin 4096) (x : ℕ) : ℕ := Row.keptBelow (Spec.num (labOf V0)) (order V0 i) (fp V0 i) x

/-- There are at most 4096 kept places. -/
theorem kept_le (i : Fin 4096) (x : ℕ) : kept V0 i x ≤ 4096 := Row.keptBelow_le x

/-! ## The running count -/

omit hlab in
/-- The upper bound of the indices over a whole matrix is constant. -/
theorem hi_at (M : BitVec 32) (k : S4096x4096x1.Idx) :
    (broadcastInDim S4096x4096x1 ![0, 1, 2] bcast_S1x1x1_S4096x4096x1_0_1_2 (broadcastInDim S1x1x1 ![2] bcast_S1_S1x1x1_2 (constantI S1 32 M))) k = M := by
  obtain ⟨a, b, c, rfl⟩ : ∃ a b c, k = ix3 a b c := ⟨_, _, _, eq_ix3 k⟩
  pointwise

omit hlab in
/-- The upper bound of the indices in one column is constant. -/
theorem hi1_at (M : BitVec 32) (k : S4096x1x1.Idx) :
    (broadcastInDim S4096x1x1 ![0, 1, 2] bcast_S1x1x1_S4096x1x1_0_1_2 (broadcastInDim S1x1x1 ![2] bcast_S1_S1x1x1_2 (constantI S1 32 M))) k = M := by
  obtain ⟨a, b, c, rfl⟩ : ∃ a b c, k = ix3 a b c := ⟨_, _, _, eq_ix3 k⟩
  pointwise

omit hlab in
/-- The upper bound of the indices in twenty columns is constant. -/
theorem hi20_at (M : BitVec 32) (k : S4096x20x1.Idx) :
    (broadcastInDim S4096x20x1 ![0, 1, 2] bcast_S1x1x1_S4096x20x1_0_1_2 (broadcastInDim S1x1x1 ![2] bcast_S1_S1x1x1_2 (constantI S1 32 M))) k = M := by
  obtain ⟨a, b, c, rfl⟩ : ∃ a b c, k = ix3 a b c := ⟨_, _, _, eq_ix3 k⟩
  pointwise

/-- The first place of the label found at place `p`. -/
theorem look_at (i p : Fin 4096) :
    (select (Host.reduce IntOp.andi (andi (cmpi .sge (res_main_call2_v5 V0) (broadcastInDim S4096x4096x1 ![] bcast_S_S4096x4096x1 (constantI S_ 32 0#32))) (cmpi .sle (res_main_call2_v5 V0) (broadcastInDim S4096x4096x1 ![0, 1, 2] bcast_S1x1x1_S4096x4096x1_0_1_2 (broadcastInDim S1x1x1 ![2] bcast_S1_S1x1x1_2 (constantI S1 32 999#32))))) (constantI S_ 1 1#1) reducesTo_S4096x4096x1_S4096x4096_d2 h_S_) (Host.gather gather_S4096x1000_S4096x4096x1_S4096x4096_n_1_0_0_1_2_11 (res_main_v47 V0) (res_main_call2_v5 V0)) (broadcastInDim S4096x4096 ![] bcast_S_S4096x4096 (constantI S_ 32 2147483648#32)) : IVec S4096x4096 32) (ix2 i p)
      = BitVec.ofNat 32 (fp V0 i (Spec.num (labOf V0) (order V0 i p))) := by
  refine (take_masked gather_S4096x1000_S4096x4096x1_S4096x4096_n_1_0_0_1_2_11_wf (res_main_v47 V0) (res_main_call2_v5 V0) _ _ _ _ _ _
    (fun i p => (⟨Spec.num (labOf V0) (order V0 i p), num_lt V0 hlab _⟩ : Fin 1000)) (by norm_num) (call2_at V0 hlab) (fun k => rfl) (hi_at _) (fun k => rfl) i p).trans ?_
  exact fp_word V0 hlab i _

omit hlab in
/-- The mark of a place that equals its entry, as a word. -/
theorem bit_at (x : IVec S4096x4096 32) (i p : Fin 4096) (a : ℕ) (ha : a < 2 ^ 32) (hx : x (ix2 i p) = BitVec.ofNat 32 a) :
    (extui 32 (cmpi .eq x (broadcastInDim S4096x4096 ![0, 1] bcast_S1x4096_S4096x4096_0_1 (broadcastInDim S1x4096 ![1] bcast_S4096_S1x4096_1 (res_main_v28 V0)))) natLt_1_32 : IVec S4096x4096 32) (ix2 i p)
      = BitVec.ofNat 32 (if a = p.val then 1 else 0) := by
  show (IntOp.cmpi .eq (x (ix2 i p)) ((broadcastInDim S4096x4096 ![0, 1] bcast_S1x4096_S4096x4096_0_1 (broadcastInDim S1x4096 ![1] bcast_S4096_S1x4096_1 (res_main_v28 V0))) (ix2 i p))).setWidth 32 = _
  rw [hx, v28_at, cmpi_eq_ofNat ha (by have := p.isLt; omega)]
  by_cases h : a = p.val <;> simp [h]

/-- The running count at place `p` counts the kept places up to it. -/
theorem v53_at (i p : Fin 4096) : res_main_v53 V0 (ix2 i p) = BitVec.ofNat 32 (kept V0 i (p.val + 1)) := by
  unfold res_main_v53
  refine (Ops.cumsum_row (N := 4096) (M := 4095) rfl _ i (keptAt (Spec.num (labOf V0)) (order V0 i) (fp V0 i)) (fun q => ?_) _ (fun q => rfl) _ _ p).trans ?_
  · refine (bit_at V0 _ i q _ (by have := fp_small V0 hlab i (Spec.num (labOf V0) (order V0 i q)); omega) (look_at V0 hlab i q)).trans ?_
    refine congrArg (BitVec.ofNat 32) ?_
    unfold keptAt
    rw [dif_pos q.isLt]
    rfl
  · rw [sum_keptAt _ _ _ _ (by have := p.isLt; omega)]

/-- One less than the running count, at a place that is first of its label: the labels kept before it. -/
theorem v55_at (i p : Fin 4096) (h : Row.Kept (Spec.num (labOf V0)) (order V0 i) (fp V0 i) p) :
    res_main_v55 V0 (ix2 i p) = BitVec.ofNat 32 (kept V0 i p.val) := by
  unfold res_main_v55
  show IntOp.subi (res_main_v53 V0 (ix2 i p)) 1#32 = _
  have hle := kept_le V0 hlab i p.val
  rw [v53_at V0 hlab]
  unfold kept at hle ⊢
  rw [Row.keptBelow_succ p h]
  revert hle
  generalize Row.keptBelow (Spec.num (labOf V0)) (order V0 i) (fp V0 i) p.val = a
  intro hle
  show BitVec.ofNat 32 (a + 1) - 1#32 = _
  refine BitVec.eq_of_toNat_eq ?_
  simp only [BitVec.toNat_sub, BitVec.toNat_ofNat, Nat.reducePow, Nat.reduceMod]
  omega

end Cert.ReferenceIdeal.Hand

end
-- ==== Proof.ReferenceIdeal.Rank.lean ====
/-
The reference's rank of each row's own label, at each threshold.
-/
module

public import proofs.«01_k».proof.Proof.ReferenceIdeal.Count

@[expose] public section

set_option maxRecDepth 16384

noncomputable section

namespace Cert.ReferenceIdeal.Hand

open Cert.ReferenceIdeal.Gen Cert.ReferenceIdeal.Value
open Idealize.ShloMosaic Idealize.ShloMosaic.Pointwise Idealize.ShloMosaic.WordCmp

variable (V0 : Valuation τ sig (Elt Ideal))

/-! ## Columns -/

/-- A column flattened and made a column again, at one entry. -/
theorem colCast_at (x : IVec S4096x1 32) (i : Fin 4096) (p : Fin 1) :
    (broadcastInDim S4096x1 ![0] bcast_S4096_S4096x1_0 (shapeCast S4096 x shapeCasts_S4096x1_S4096)) (ix2 i p) = x (ix2 i 0) := by
  pointwise

/-- A column flattened, at one entry. -/
theorem cast_at (x : IVec S4096x1 32) (i : Fin 4096) : shapeCast S4096 x shapeCasts_S4096x1_S4096 (ix1 i) = x (ix2 i 0) := by
  pointwise

/-- A vector as a column, at one entry. -/
theorem toCol_at (x : IVec S4096 32) (i : Fin 4096) (p : Fin 1) :
    (broadcastInDim S4096x1 ![0] bcast_S4096_S4096x1_0 x) (ix2 i p) = x (ix1 i) := by
  pointwise

/-- The first column of a matrix, flattened, at one entry. -/
theorem slice_at (x : IVec S4096x1000 32) (i : Fin 4096) :
    shapeCast S4096 (extractStridedSlice S4096x1 ![0, 0] x slices_S4096x1000_S4096x1_0_0) shapeCasts_S4096x1_S4096 (ix1 i) = x (ix2 i 0) := by
  pointwise

/-- The larger of two small words is the word of the larger. -/
theorem maxsi_ofNat {a b : ℕ} (ha : a < 2 ^ 31) (hb : b < 2 ^ 31) :
    IntOp.maxsi (BitVec.ofNat 32 a) (BitVec.ofNat 32 b) = BitVec.ofNat 32 (max a b) := by
  unfold IntOp.maxsi
  simp only [BitVec.slt, toInt_small ha, toInt_small hb, decide_eq_true_eq]
  by_cases h : a < b
  · rw [max_eq_right h.le]
    split
    · rename_i g; exact congrArg _ (by omega)
    · rename_i g; first | rfl | exact congrArg _ (by omega)
  · rw [max_eq_left (by omega)]
    split
    · rename_i g; first | rfl | exact congrArg _ (by omega)
    · rename_i g; first | rfl | exact congrArg _ (by omega)

variable (hlab : ∀ j, (labOf V0 j).toNat < 1000)
include hlab

/-! ## The row's own label -/

/-- The index word of the lookup of a row's own label. -/
theorem call4_at (i : Fin 4096) (p : Fin 1) : res_main_call4_v5 V0 (ix3 i p 0) = BitVec.ofNat 32 (Spec.num (labOf V0) i) := by
  unfold res_main_call4_v5
  refine (idx1_at _ _ i p).trans ?_
  have e : res_main_v56 V0 (ix2 i p) = BitVec.ofNat 32 (Spec.num (labOf V0) i) := by
    unfold res_main_v56
    exact (toCol_at _ i p).trans (lab_eq V0 i)
  rw [e]
  exact wrap_word (by have := num_lt V0 hlab i; omega) _

/-- The first place of the row's own label. -/
theorem v59_at (i : Fin 4096) (p : Fin 1) : res_main_v59 V0 (ix2 i p) = BitVec.ofNat 32 (fp V0 i (Spec.num (labOf V0) i)) := by
  unfold res_main_v59
  refine (colCast_at _ i p).trans ?_
  refine (take_masked gather_S4096x1000_S4096x1x1_S4096x1_n_1_0_0_1_2_11_wf (res_main_v47 V0) (res_main_call4_v5 V0) _ _ _ _ _ _
    (fun i p => (⟨Spec.num (labOf V0) i, num_lt V0 hlab _⟩ : Fin 1000)) (by norm_num) (call4_at V0 hlab) (fun k => rfl) (hi1_at _) (fun k => rfl) i 0).trans ?_
  exact fp_word V0 hlab i _

/-- The same first place as an index word. -/
theorem call5_at (i : Fin 4096) (p : Fin 1) : res_main_call5_v5 V0 (ix3 i p 0) = BitVec.ofNat 32 (fp V0 i (Spec.num (labOf V0) i)) := by
  unfold res_main_call5_v5
  refine (idx1_at _ _ i p).trans ?_
  rw [v59_at V0 hlab]
  exact wrap_word (fp_small V0 hlab i _) _

/-- The first place of an entry's label is first of its label. -/
theorem fp_kept (i j : Fin 4096) : Row.Kept (Spec.num (labOf V0)) (order V0 i) (fp V0 i) ⟨fp V0 i (Spec.num (labOf V0) j), fp_lt V0 hlab i j⟩ := by
  obtain ⟨p, h1, -, h3⟩ := (fp_places V0 hlab i).first j
  have : (⟨fp V0 i (Spec.num (labOf V0) j), fp_lt V0 hlab i j⟩ : Fin 4096) = p := Fin.ext h1
  rw [this]
  exact h3

/-- The kept labels before the row's own. -/
theorem v88_at (i : Fin 4096) (p : Fin 1) : res_main_v88 V0 (ix2 i p) = BitVec.ofNat 32 (kept V0 i (fp V0 i (Spec.num (labOf V0) i))) := by
  unfold res_main_v88
  refine (colCast_at _ i p).trans ?_
  refine (take_masked gather_S4096x4096_S4096x1x1_S4096x1_n_1_0_0_1_2_11_wf (res_main_v55 V0) (res_main_call5_v5 V0) _ _ _ _ _ _
    (fun i p => (⟨fp V0 i (Spec.num (labOf V0) i), fp_lt V0 hlab i i⟩ : Fin 4096)) (by norm_num) (call5_at V0 hlab) (fun k => rfl) (hi1_at _) (fun k => rfl) i 0).trans ?_
  exact v55_at V0 hlab i _ (fp_kept V0 hlab i i)

/-! ## Label zero -/

/-- The first place of label zero. -/
theorem v63_at (i : Fin 4096) : res_main_v63 V0 (ix1 i) = BitVec.ofNat 32 (fp V0 i 0) := by
  unfold res_main_v63
  exact (slice_at _ i).trans (fp_word V0 hlab i 0)

/-- The first place of label zero, kept inside the row. -/
theorem v67_at (i : Fin 4096) (p : Fin 1) : res_main_v67 V0 (ix2 i p) = BitVec.ofNat 32 (min 4095 (fp V0 i 0)) := by
  unfold res_main_v67
  refine (toCol_at _ i p).trans ?_
  show IntOp.minsi 4095#32 (IntOp.maxsi 0#32 (res_main_v63 V0 (ix1 i))) = _
  rw [v63_at V0 hlab]
  have h := fp_small V0 hlab i 0
  have e1 : IntOp.maxsi 0#32 (BitVec.ofNat 32 (fp V0 i 0)) = BitVec.ofNat 32 (fp V0 i 0) := by
    refine (maxsi_ofNat (a := 0) (by norm_num) h).trans ?_
    rw [Nat.zero_max]
  rw [e1]
  exact Ops.minsi_ofNat (a := 4095) (by norm_num) h

/-- The same place as an index word. -/
theorem call7_at (i : Fin 4096) (p : Fin 1) : res_main_call7_v5 V0 (ix3 i p 0) = BitVec.ofNat 32 (min 4095 (fp V0 i 0)) := by
  unfold res_main_call7_v5
  refine (idx1_at _ _ i p).trans ?_
  rw [v67_at V0 hlab]
  exact wrap_word (by have := Nat.min_le_left 4095 (fp V0 i 0); omega) _

/-- The kept labels before the first zero, and `2 ^ 30` with no zero. -/
def zeroAt (i : Fin 4096) : ℕ := if fp V0 i 0 < 2 ^ 30 then kept V0 i (fp V0 i 0) else 2 ^ 30

/-- The kept labels before the first zero, as a word. -/
theorem v89_at (i : Fin 4096) (p : Fin 1) : res_main_v89 V0 (ix2 i p) = BitVec.ofNat 32 (zeroAt V0 i) := by
  unfold res_main_v89
  refine (toCol_at _ i p).trans ?_
  have e : IntOp.cmpi .slt (res_main_v63 V0 (ix1 i)) 1073741824#32 = BitVec.ofBool (decide (fp V0 i 0 < 2 ^ 30)) := by
    rw [v63_at V0 hlab]
    exact (cmpi_slt_ofNat (w := 32) (a := fp V0 i 0) (b := 1073741824) (fp_small V0 hlab i 0) (by norm_num)).trans
      (congrArg BitVec.ofBool (decide_eq_decide.mpr (by norm_num)))
  have hsel : ∀ x : IVec S4096x1 32, (x (ix2 i 0) = if fp V0 i 0 < 2 ^ 30 then BitVec.ofNat 32 (kept V0 i (fp V0 i 0)) else x (ix2 i 0)) →
      Scalar.select (IntOp.cmpi .slt (res_main_v63 V0 (ix1 i)) 1073741824#32) (shapeCast S4096 x shapeCasts_S4096x1_S4096 (ix1 i)) 1073741824#32
        = BitVec.ofNat 32 (zeroAt V0 i) := by
    intro x hx
    rw [e, cast_at, hx]
    unfold zeroAt
    by_cases h : fp V0 i 0 < 2 ^ 30
    · rw [decide_eq_true h, if_pos h, if_pos h]; rfl
    · rw [decide_eq_false h, if_neg h, if_neg h]; rfl
  refine hsel _ ?_
  by_cases h : fp V0 i 0 < 2 ^ 30
  · rw [if_pos h]
    refine (take_masked gather_S4096x4096_S4096x1x1_S4096x1_n_1_0_0_1_2_11_wf (res_main_v55 V0) (res_main_call7_v5 V0) _ _ _ _ _ _
      (fun i p => (⟨min 4095 (fp V0 i 0), by omega⟩ : Fin 4096)) (by norm_num) (call7_at V0 hlab) (fun k => rfl) (hi1_at _) (fun k => rfl) i 0).trans ?_
    obtain ⟨p, e1, e2⟩ : ∃ p : Fin 4096, Spec.num (labOf V0) (order V0 i p) = 0 ∧ fp V0 i 0 = p.val := by
      rcases (fp_least V0 hlab i 0).2.2 with g | g
      · omega
      · exact g
    have hk : Row.Kept (Spec.num (labOf V0)) (order V0 i) (fp V0 i) p := by
      unfold Row.Kept
      rw [e1, e2]
    have hp : (⟨min 4095 (fp V0 i 0), by omega⟩ : Fin 4096) = p := Fin.ext (by
      show min 4095 (fp V0 i 0) = p.val
      have := p.isLt
      omega)
    rw [hp, v55_at V0 hlab i p hk, e2]
  · rw [if_neg h]

end Cert.ReferenceIdeal.Hand

end
-- ==== Proof.ReferenceIdeal.Thresh.lean ====
/-
The reference's counts at each threshold, and its ranks.
-/
module

public import proofs.«01_k».proof.Proof.ReferenceIdeal.Rank

@[expose] public section

set_option maxRecDepth 16384

noncomputable section

namespace Cert.ReferenceIdeal.Hand

open Cert.ReferenceIdeal.Gen Cert.ReferenceIdeal.Value
open Idealize.ShloMosaic Idealize.ShloMosaic.Pointwise Idealize.ShloMosaic.WordCmp

variable (V0 : Valuation τ sig (Elt Ideal))

/-! ## How many scores reach a threshold -/

/-- The index word of the lookup of the sorted scores. -/
theorem call1_at (i p : Fin 4096) : res_main_call1_v5 V0 (ix3 i p 0) = BitVec.ofNat 32 (order V0 i p).val := by
  unfold res_main_call1_v5
  refine (idx4096_at _ _ i p).trans ?_
  rw [v19_at]
  exact wrap_word (by have := (order V0 i p).isLt; omega) _

/-- The scores in ranking order, read from the end. -/
theorem sorted_at (i p : Fin 4096) :
    (Host.reverse (s := S4096x4096) [1] (select (Host.reduce IntOp.andi (andi (cmpi .sge (res_main_call1_v5 V0) (broadcastInDim S4096x4096x1 ![] bcast_S_S4096x4096x1 (constantI S_ 32 0#32))) (cmpi .sle (res_main_call1_v5 V0) (broadcastInDim S4096x4096x1 ![0, 1, 2] bcast_S1x1x1_S4096x4096x1_0_1_2 (broadcastInDim S1x1x1 ![2] bcast_S1_S1x1x1_2 (constantI S1 32 4095#32))))) (constantI S_ 1 1#1) reducesTo_S4096x4096x1_S4096x4096_d2 h_S_) (Host.gather gather_S4096x4096_S4096x4096x1_S4096x4096_n_1_0_0_1_2_11 (res_main_v17 V0) (res_main_call1_v5 V0)) (broadcastInDim S4096x4096 ![] bcast_S_S4096x4096 (constant S_ .f32 0x7FC00000#32))) : FVec Ideal S4096x4096 .f32) (ix2 i p)
      = Spec.score (featOf V0) i (order V0 i p.rev) := by
  refine (rev_at _ i p).trans ?_
  refine (take_masked gather_S4096x4096_S4096x4096x1_S4096x4096_n_1_0_0_1_2_11_wf (res_main_v17 V0) (res_main_call1_v5 V0) _ _ _ _ _ _
    (fun i p => order V0 i p) (by norm_num) (call1_at V0) (fun k => rfl) (hi_at _) (fun k => rfl) i p.rev).trans ?_
  exact v17_at V0 i _

/-- The count of scores below a threshold, as a sum of marks. -/
theorem below_at (x : FVec Ideal S4096x4096 .f32) (y : FVec Ideal S20 .f32) (i : Fin 4096) (t : Fin 20) :
    Host.reduce IntOp.addi (extui 32 (cmpf .olt (broadcastInDim S4096x4096x20 ![0, 1, 2] bcast_S4096x4096x1_S4096x4096x20_0_1_2 (broadcastInDim S4096x4096x1 ![0, 1] bcast_S4096x4096_S4096x4096x1_0_1 x)) (broadcastInDim S4096x4096x20 ![0, 1, 2] bcast_S1x1x20_S4096x4096x20_0_1_2 (broadcastInDim S1x1x20 ![2] bcast_S20_S1x1x20_2 y))) natLt_1_32) (constantI S_ 32 0#32) reducesTo_S4096x4096x20_S4096x20_d1 h_S_ (ix2 i t)
      = Finset.fold IntOp.addi 0#32 (fun p : Fin 4096 => (FloatOps.cmpf (F := Ideal) .olt (x (ix2 i p)) (y (ix1 t))).setWidth 32) Finset.univ := by
  pointwise

open Classical in
/-- The count of scores below a threshold. -/
theorem below_count (x : FVec Ideal S4096x4096 .f32) (y : FVec Ideal S20 .f32) (i : Fin 4096) (t : Fin 20) (s : Fin 4096 → EReal) (b : EReal)
    (hx : ∀ p, x (ix2 i p) = s p) (hy : y (ix1 t) = b) :
    Host.reduce IntOp.addi (extui 32 (cmpf .olt (broadcastInDim S4096x4096x20 ![0, 1, 2] bcast_S4096x4096x1_S4096x4096x20_0_1_2 (broadcastInDim S4096x4096x1 ![0, 1] bcast_S4096x4096_S4096x4096x1_0_1 x)) (broadcastInDim S4096x4096x20 ![0, 1, 2] bcast_S1x1x20_S4096x4096x20_0_1_2 (broadcastInDim S1x1x20 ![2] bcast_S20_S1x1x20_2 y))) natLt_1_32) (constantI S_ 32 0#32) reducesTo_S4096x4096x20_S4096x20_d1 h_S_ (ix2 i t)
      = BitVec.ofNat 32 (Finset.univ.filter fun p : Fin 4096 => s p < b).card := by
  rw [below_at, IndicatorCount.fold_addi_setWidth_eq_card]
  refine congrArg (BitVec.ofNat 32) (congrArg Finset.card (Finset.filter_congr fun p _ => ?_))
  rw [hx, hy]
  exact ofBool_decide_eq_one_iff (p := s p < b)

/-- The thresholds are those of the specification. -/
theorem thr_at (t : Fin 20) : (fun i => FloatOps.ofBits (F := Ideal) .f32 (lit0 (S20.rowMajor i)) : FVec Ideal S20 .f32) (ix1 t) = Ideal.ofBits .f32 (Spec.thr t) := by
  show Ideal.ofBits .f32 (lit0 (S20.rowMajor (ix1 t))) = _
  refine congrArg (Ideal.ofBits .f32) ?_
  have e : S20.rowMajor (ix1 t) = t := Fin.ext (Shape.rowMajor_val_one _)
  rw [e]
  fin_cases t <;> rfl

/-- The threshold number `t`. -/
abbrev thrV (t : Fin 20) : EReal := Ideal.ofBits .f32 (Spec.thr t)

/-- How many of a row's scores reach threshold number `t`. -/
abbrev reach (i : Fin 4096) (t : Fin 20) : ℕ := Row.atLeast (Spec.score (featOf V0) i) (thrV t)

open Classical in
/-- The scores read from the end that are below a threshold, and those that reach it, are all of them. -/
theorem below_add (i : Fin 4096) (t : EReal) :
    (Finset.univ.filter fun p : Fin 4096 => Spec.score (featOf V0) i (order V0 i p.rev) < t).card + Row.atLeast (Spec.score (featOf V0) i) t = 4096 := by
  have h1 : (Finset.univ.filter fun p : Fin 4096 => Spec.score (featOf V0) i (order V0 i p.rev) < t).card
      = (Finset.univ.filter fun j : Fin 4096 => Spec.score (featOf V0) i j < t).card := by
    refine Finset.card_bij (fun p _ => order V0 i p.rev) ?_ ?_ ?_
    · intro p hp; simpa using hp
    · intro p _ q _ e; exact Fin.rev_injective ((order_ranks V0 i).bij.1 e)
    · intro j hj
      obtain ⟨p, rfl⟩ := (order_ranks V0 i).bij.2 j
      exact ⟨p.rev, by simpa using hj, by simp⟩
  have h2 : (Finset.univ.filter fun j : Fin 4096 => Spec.score (featOf V0) i j < t).card
      + (Finset.univ.filter fun j : Fin 4096 => ¬ Spec.score (featOf V0) i j < t).card = 4096 := by
    rw [Finset.card_filter_add_card_filter_not]
    simp
  refine (congrArg₂ (· + ·) h1 ?_).trans h2
  unfold Row.atLeast
  refine congrArg Finset.card ?_
  ext j
  simp

/-- The number of scores that reach a threshold. -/
theorem v80_at (i : Fin 4096) (t : Fin 20) : res_main_v80 V0 (ix2 i t) = BitVec.ofNat 32 (reach V0 i t) := by
  classical
  unfold res_main_v80
  refine (congrArg (fun w => IntOp.subi 4096#32 w) (below_count _ _ i t (fun p => Spec.score (featOf V0) i (order V0 i p.rev)) (thrV t) (sorted_at V0 i) (thr_at t))).trans ?_
  have hs := below_add V0 i (thrV t)
  revert hs
  unfold reach
  generalize (Finset.univ.filter fun p : Fin 4096 => Spec.score (featOf V0) i (order V0 i p.rev) < thrV t).card = a
  generalize Row.atLeast (Spec.score (featOf V0) i) (thrV t) = b
  intro hs
  show 4096#32 - BitVec.ofNat 32 a = _
  refine BitVec.eq_of_toNat_eq ?_
  simp only [BitVec.toNat_sub, BitVec.toNat_ofNat, Nat.reducePow, Nat.reduceMod]
  omega

/-! ## The labels kept above a threshold -/

/-- At most all scores reach a threshold. -/
theorem reach_le (i : Fin 4096) (t : Fin 20) : reach V0 i t ≤ 4096 := Row.atLeast_le _ _

/-- The last place whose score reaches a threshold, or zero. -/
theorem v85_at (i : Fin 4096) (t : Fin 20) : res_main_v85 V0 (ix2 i t) = BitVec.ofNat 32 (reach V0 i t - 1) := by
  unfold res_main_v85
  show IntOp.minsi 4095#32 (IntOp.maxsi 0#32 (IntOp.subi (res_main_v80 V0 (ix2 i t)) 1#32)) = _
  rw [v80_at]
  have hle := reach_le V0 i t
  revert hle
  generalize reach V0 i t = a
  intro hle
  by_cases h : a = 0
  · subst h
    decide
  · have e : IntOp.subi (BitVec.ofNat 32 a) 1#32 = BitVec.ofNat 32 (a - 1) := by
      show BitVec.ofNat 32 a - 1#32 = _
      refine BitVec.eq_of_toNat_eq ?_
      simp only [BitVec.toNat_sub, BitVec.toNat_ofNat, Nat.reducePow, Nat.reduceMod]
      omega
    have e1 : IntOp.maxsi 0#32 (BitVec.ofNat 32 (a - 1)) = BitVec.ofNat 32 (a - 1) := by
      refine (maxsi_ofNat (a := 0) (by norm_num) (by omega)).trans ?_
      rw [Nat.zero_max]
    rw [e, e1]
    refine (Ops.minsi_ofNat (a := 4095) (by norm_num) (by omega)).trans ?_
    exact congrArg (BitVec.ofNat 32) (by omega)

/-- The same place as an index word. -/
theorem call10_at (i : Fin 4096) (t : Fin 20) : res_main_call10_v5 V0 (ix3 i t 0) = BitVec.ofNat 32 (reach V0 i t - 1) := by
  unfold res_main_call10_v5
  refine (idx20_at _ _ i t).trans ?_
  rw [v85_at]
  exact wrap_word (by have := reach_le V0 i t; omega) _

variable (hlab : ∀ j, (labOf V0 j).toNat < 1000)
include hlab

/-- The kept labels whose first score reaches a threshold. -/
theorem v87_at (i : Fin 4096) (t : Fin 20) : res_main_v87 V0 (ix2 i t) = BitVec.ofNat 32 (kept V0 i (reach V0 i t)) := by
  unfold res_main_v87
  have hle := reach_le V0 i t
  have e : IntOp.cmpi .sgt (res_main_v80 V0 (ix2 i t)) 0#32 = BitVec.ofBool (decide (0 < reach V0 i t)) := by
    rw [v80_at]
    exact cmpi_sgt_ofNat (w := 32) (a := reach V0 i t) (b := 0) (by norm_num; omega) (by norm_num)
  have hsel : ∀ x : BitVec 32, x = BitVec.ofNat 32 (kept V0 i (reach V0 i t - 1 + 1)) →
      Scalar.select (IntOp.cmpi .sgt (res_main_v80 V0 (ix2 i t)) 0#32) x 0#32 = BitVec.ofNat 32 (kept V0 i (reach V0 i t)) := by
    intro x hx
    rw [e, hx]
    by_cases h : 0 < reach V0 i t
    · rw [decide_eq_true h, show reach V0 i t - 1 + 1 = reach V0 i t by omega]; rfl
    · rw [decide_eq_false h, show reach V0 i t = 0 by omega]
      have : kept V0 i 0 = 0 := by simp [kept, Row.keptBelow]
      rw [this]; rfl
  refine hsel _ ?_
  refine (take_masked gather_S4096x4096_S4096x20x1_S4096x20_n_1_0_0_1_2_11_wf (res_main_v53 V0) (res_main_call10_v5 V0) _ _ _ _ _ _
    (fun i t => (⟨reach V0 i t - 1, by have := reach_le V0 i t; omega⟩ : Fin 4096)) (by norm_num) (call10_at V0) (fun k => rfl) (hi20_at _) (fun k => rfl) i t).trans ?_
  exact v53_at V0 hlab i _

/-! ## The ranks -/

/-- The count before zero is a small number. -/
theorem zeroAt_lt (i : Fin 4096) : zeroAt V0 i < 2 ^ 31 := by
  unfold zeroAt
  split
  · have := kept_le V0 hlab i (fp V0 i 0); omega
  · norm_num

/-- The kept labels before the row's own are fewer than those before zero exactly when the zeros come later. -/
theorem lt_zeroAt_iff (i : Fin 4096) :
    kept V0 i (fp V0 i (Spec.num (labOf V0) i)) < zeroAt V0 i
      ↔ Row.ZeroLater (Spec.score (featOf V0) i) (Spec.num (labOf V0)) (Spec.num (labOf V0) i) := by
  have hp := fp_places V0 hlab i
  unfold zeroAt
  by_cases hz : ∃ z, Spec.num (labOf V0) z = 0
  · obtain ⟨z, hz⟩ := hz
    have h : fp V0 i 0 < 2 ^ 30 := by
      have := fp_lt V0 hlab i z
      rw [hz] at this
      omega
    rw [if_pos h]
    exact Row.keptBelow_lt_zero_iff (order_ranks V0 i) hp i z hz
  · have hz' : ∀ j, Spec.num (labOf V0) j ≠ 0 := fun j hj => hz ⟨j, hj⟩
    have h : fp V0 i 0 = 2 ^ 30 := hp.absent 0 hz'
    rw [if_neg (by omega)]
    refine iff_of_true ?_ fun j hj => absurd hj (hz' j)
    have := kept_le V0 hlab i (fp V0 i (Spec.num (labOf V0) i))
    omega

/-- The reference's rank is the rank of the specification. -/
theorem v100_at (i : Fin 4096) (t : Fin 20) :
    res_main_v100 V0 (ix2 i t) = Spec.rank (labOf V0) (featOf V0) i (thrV t) := by
  classical
  have hr : res_main_v100 V0 (ix2 i t) = IntOp.addi (res_main_v88 V0 (ix2 i 0))
      ((IntOp.andi (IntOp.andi (IntOp.cmpi .sge (res_main_v89 V0 (ix2 i 0)) (res_main_v87 V0 (ix2 i t))) (IntOp.cmpi .sge (res_main_v88 V0 (ix2 i 0)) (res_main_v87 V0 (ix2 i t))))
        (IntOp.cmpi .slt (res_main_v88 V0 (ix2 i 0)) (res_main_v89 V0 (ix2 i 0)))).setWidth 32) := by
    pointwise [res_main_v100]
  rw [hr, v88_at V0 hlab, v89_at V0 hlab, v87_at V0 hlab]
  have hq := kept_le V0 hlab i (fp V0 i (Spec.num (labOf V0) i))
  have hc := kept_le V0 hlab i (reach V0 i t)
  have hzb := zeroAt_lt V0 hlab i
  rw [cmpi_sge_ofNat (w := 32) (by norm_num; omega) (by norm_num; omega), cmpi_sge_ofNat (w := 32) (by norm_num; omega) (by norm_num; omega),
    cmpi_slt_ofNat (w := 32) (by norm_num; omega) (by norm_num; omega)]
  have hlow := Row.keptBelow_atLeast_le_iff (order_ranks V0 i) (fp_places V0 hlab i) i (thrV t)
  have hzl := lt_zeroAt_iff V0 hlab i
  have hq2 : kept V0 i (fp V0 i (Spec.num (labOf V0) i)) = Row.rowQ (Spec.score (featOf V0) i) (Spec.num (labOf V0)) (Spec.num (labOf V0) i) :=
    Row.keptBelow_first (order_ranks V0 i) (fp_places V0 hlab i) i
  change kept V0 i (reach V0 i t) ≤ kept V0 i (fp V0 i (Spec.num (labOf V0) i)) ↔ _ at hlow
  have hex : Spec.Extra (labOf V0) (featOf V0) i (thrV t)
      ↔ (kept V0 i (reach V0 i t) ≤ zeroAt V0 i ∧ kept V0 i (reach V0 i t) ≤ kept V0 i (fp V0 i (Spec.num (labOf V0) i)))
        ∧ kept V0 i (fp V0 i (Spec.num (labOf V0) i)) < zeroAt V0 i := by
    unfold Spec.Extra
    rw [← hlow, ← hzl]
    omega
  unfold Spec.rank
  rw [← hq2]
  rw [andi_ofBool, andi_ofBool]
  by_cases h : Spec.Extra (labOf V0) (featOf V0) i (thrV t)
  · rw [if_pos h]
    obtain ⟨⟨h1, h2⟩, h3⟩ := hex.mp h
    rw [decide_eq_true h1, decide_eq_true h2, decide_eq_true h3]
    show BitVec.ofNat 32 _ + 1#32 = _
    rw [BitVec.ofNat_add]
  · rw [if_neg h]
    have hb : (decide (kept V0 i (reach V0 i t) ≤ zeroAt V0 i) && decide (kept V0 i (reach V0 i t) ≤ kept V0 i (fp V0 i (Spec.num (labOf V0) i)))
        && decide (kept V0 i (fp V0 i (Spec.num (labOf V0) i)) < zeroAt V0 i)) = false := by
      rw [Bool.eq_false_iff]
      intro hb
      simp only [Bool.and_eq_true, decide_eq_true_eq] at hb
      exact h (hex.mpr hb)
    rw [hb]
    show BitVec.ofNat 32 _ + 0#32 = _
    rw [BitVec.ofNat_add]

end Cert.ReferenceIdeal.Hand

end
-- ==== Proof.ReferenceIdeal.Final.lean ====
/-
The reference's result.
-/
module

public import proofs.«01_k».proof.Proof.ReferenceIdeal.Thresh

@[expose] public section

set_option maxRecDepth 16384

noncomputable section

namespace Cert.ReferenceIdeal.Hand

open Cert.ReferenceIdeal.Gen Cert.ReferenceIdeal.Value
open Idealize.ShloMosaic Idealize.ShloMosaic.TcCoe Idealize.SL.Sem Idealize.ShloMosaic.Pointwise Idealize.ShloMosaic.WordCmp Idealize.ShloMosaic.StableHlo

/-- The rows' precisions, one column per threshold. -/
def apks (l : IVec S4096 32) (r : IVec S4096x20 32) : FVec Ideal S4096x20 .f32 :=
  select (ori (broadcastInDim S4096x20 ![0, 1] bcast_S4096x1_S4096x20_0_1 (cmpi .eq (broadcastInDim S4096x1 ![0] bcast_S4096_S4096x1_0 l) (broadcastInDim S4096x1 ![] bcast_S_S4096x1 (constantI S_ 32 0#32)))) (cmpi .sge r (broadcastInDim S4096x20 ![] bcast_S_S4096x20 (constantI S_ 32 5#32)))) (broadcastInDim S4096x20 ![] bcast_S_S4096x20 (id (constant S_ .f32 0x00000000#32))) (Host.divf (broadcastInDim S4096x20 ![] bcast_S_S4096x20 (constant S_ .f32 0x3F800000#32)) (addf (sitofp .f32 r) (broadcastInDim S4096x20 ![] bcast_S_S4096x20 (constant S_ .f32 0x3F800000#32))))

/-- A row's precision at one threshold. -/
theorem apks_at (l : IVec S4096 32) (r : IVec S4096x20 32) (i : Fin 4096) (t : Fin 20) :
    apks l r (ix2 i t) = Spec.apk (l (ix1 i)) (r (ix2 i t)) := by
  have z : (id (constant (F := Ideal) S_ .f32 0x00000000#32)) ix0 = (0 : EReal) := by
    show Ideal.ofBits .f32 0x00000000#32 = 0
    simp [Ideal.ofBits, Ideal.ieee]
  pointwise [apks]
  rw [z]
  rfl

/-- The mean over the rows, and the largest of the means. -/
theorem best_at (x : FVec Ideal S4096x20 .f32) (k : S_.Idx) :
    (Host.reduce FloatOps.maximumf (Host.divf (Host.reduceAdd x (constant S_ .f32 0x00000000#32) reducesTo_S4096x20_S20_d0 h_S_) (broadcastInDim S20 ![] bcast_S_S20 (constant S_ .f32 0x45800000#32))) (constant S_ .f32 0xFF800000#32) reducesTo_S20_S_d0 h_S_ : FVec Ideal S_ .f32) k
      = (Finset.univ : Finset (Fin 20)).fold max (Ideal.ofBits .f32 0xFF800000#32) (fun t => Ideal.div (∑ i : Fin 4096, x (ix2 i t)) (Ideal.ofBits .f32 0x45800000#32)) := by
  pointwise

variable (m : (ℓ : Loc nD τ sig) → Buf (Elt Ideal) ℓ) (ρ : Dev nD → PrngReg)

/-- Every execution of the reference ends with the result at the largest mean precision and the arguments unchanged. -/
theorem run (hlab : ∀ c j, (labOf (launchContents m c) j).toNat < 1000) :
    θ_run defs (onTc (τ := τ) (main (F := Ideal))) ⟨m, fun _ => 0, ρ⟩ (fun r => ∀ c : Dev nD,
      r.2.mem ((c.tc : Thread nD τ).loc main_v117) = (fun _ => Spec.best (labOf (launchContents m c)) (featOf (launchContents m c)) : Vec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨(h c).1.trans ?_, (h c).2⟩) (Value.run m ρ)
  funext k
  refine (best_at (apks (launchContents m c (Proc.devRef .tc main_arg0)) (res_main_v100 (launchContents m c))) k).trans ?_
  unfold Spec.best
  refine Finset.fold_congr fun t _ => ?_
  unfold Spec.mean Spec.total
  refine congrArg (fun y => Ideal.div y (Ideal.ofBits .f32 0x45800000#32)) (Finset.sum_congr rfl fun i _ => ?_)
  rw [apks_at, v100_at _ (hlab c)]
  rfl

end Cert.ReferenceIdeal.Hand

end
-- ==== Proof.lean ====
/-
The certificate's claim, put together from the modules beside this one.
-/
module

public import proofs.«01_k».proof.Defs
public import proofs.«01_k».proof.Proof.Kernel.Frame
public import proofs.«01_k».proof.Proof.KernelIdeal.Frame
public import proofs.«01_k».proof.Proof.KernelIdeal.Final
public import proofs.«01_k».proof.Proof.ReferenceIdeal.Final
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Idealize.ShloMosaic.Pointwise

/-- The shape relations of the precondition's operations. -/
theorem pre_facts : Cert.Pre_labels_in_range.Facts where
  bcast_S_S4096 := Cert.ReferenceIdeal.Gen.facts.bcast_S_S4096
  reducesTo_S4096_S_d0 := by decide
  h_S_ := by decide

/-- The precondition says that every label is below 1000. -/
theorem label_lt (x : Vec Ideal Cert.ReferenceIdeal.S4096 .i32) (y : Vec Ideal Cert.ReferenceIdeal.S4096x1024 .f32)
    (h : @Cert.Pre_labels_in_range.fn pre_facts Ideal _ x y = fun _ => 1#1) (j : Fin 4096) : (x (ix1 j)).toNat < 1000 := by
  have h1 := congrFun h ix0
  have : Subsingleton Cert.Pre_labels_in_range.S_.Idx := ⟨fun a b => funext fun k => k.elim0⟩
  have h2 := Host.reduce_andi_all _ _ _ _ _ h1 (ix1 j)
  have h3 : IntOp.andi (IntOp.cmpi .sge (x (ix1 j)) 0#32) (IntOp.cmpi .slt (x (ix1 j)) (BitVec.ofNat 32 1000)) = 1#1 := h2
  rw [WordCmp.andi_sge_zero_slt_ofNat (by norm_num)] at h3
  rw [WordCmp.ofBool_decide_eq_one_iff] at h3
  exact h3

/-- The kernel's frame. -/
theorem frame_p : Cert.quiescent_Kernel := fun m ρ _ => Cert.Kernel.Hand.frame m ρ

/-- The ideal kernel's frame. -/
theorem frame_pi : Cert.quiescent_KernelIdeal := fun m ρ _ => Cert.KernelIdeal.Hand.frame m ρ

/-- The reference's frame: no operation writes an argument, and the program has no semaphore. -/
theorem frame_ri : Cert.quiescent_ReferenceIdeal := fun m ρ _ =>
  (θ_run Cert.ReferenceIdeal.defs _ _).mono
    (fun r h => ⟨fun c => ⟨(h c).2.1, (h c).2.2⟩, sem_eq_zero_of_no_sems (by decide) r.2⟩)
    (Cert.ReferenceIdeal.Value.run (F := Ideal) m ρ)

/-- With labels below 1000, the ideal kernel and the reference end with the same result. -/
theorem algebraic : Cert.algebraic_KernelIdeal_ReferenceIdeal_pre_labels_in_range (hPre_labels_in_range := pre_facts) := by
  intro m ρ m' ρ' hpre hargs
  have hl : ∀ c j, (Cert.KernelIdeal.Hand.labOf m c j).toNat < 1000 := fun c j => label_lt _ _ (hpre c) j
  have el : ∀ c, Cert.ReferenceIdeal.Hand.labOf (StableHlo.launchContents m' c) = Cert.KernelIdeal.Hand.labOf m c := fun c =>
    funext fun j => congrFun (hargs c).1 (ix1 j)
  have ef : ∀ c, Cert.ReferenceIdeal.Hand.featOf (StableHlo.launchContents m' c) = Cert.KernelIdeal.Hand.featOf m c := fun c =>
    funext fun j => funext fun k => congrFun (hargs c).2 (ix2 j k)
  refine ⟨fun c => (fun _ => Cert.Spec.best (Cert.KernelIdeal.Hand.labOf m c) (Cert.KernelIdeal.Hand.featOf m c)),
    Cert.KernelIdeal.Hand.run m ρ hl, ?_⟩
  refine (θ_run Cert.ReferenceIdeal.defs _ _).mono (fun r h c => ⟨(h c).1.trans ?_, (h c).2⟩)
    (Cert.ReferenceIdeal.Hand.run m' ρ' fun c j => by rw [el]; exact hl c j)
  rw [el, ef]
  rfl

/-- Everything the certificate claims. -/
theorem claim : Cert.Claim := ⟨Cert.Kernel.Gen.facts, Cert.KernelIdeal.Gen.facts, Cert.ReferenceIdeal.Gen.facts, pre_facts,
  frame_p, frame_pi, fun m ρ _ => Cert.KernelIdeal.Hand.frame m ρ, frame_ri, fun m ρ _ => frame_ri m ρ True.intro, trivial, algebraic⟩

end Cert.Proof

end
